-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v54) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x40000x3 : Shape := ⟨3, ![2, 40000, 3]⟩
abbrev S2x40000x768 : Shape := ⟨3, ![2, 40000, 768]⟩
abbrev S_ : Shape := ⟨0, ![]⟩
abbrev S2x256 : Shape := ⟨2, ![2, 256]⟩
abbrev S2x40000 : Shape := ⟨2, ![2, 40000]⟩
abbrev S2 : Shape := ⟨1, ![2]⟩
abbrev S1 : Shape := ⟨1, ![1]⟩
abbrev S2x1 : Shape := ⟨2, ![2, 1]⟩
abbrev S2x2 : Shape := ⟨2, ![2, 2]⟩
abbrev S2x3 : Shape := ⟨2, ![2, 3]⟩
abbrev S2x1x3 : Shape := ⟨3, ![2, 1, 3]⟩
abbrev S2x256x1 : Shape := ⟨3, ![2, 256, 1]⟩
abbrev S2x256x2 : Shape := ⟨3, ![2, 256, 2]⟩
abbrev S2x256x3 : Shape := ⟨3, ![2, 256, 3]⟩
abbrev S2x256x40000 : Shape := ⟨3, ![2, 256, 40000]⟩
abbrev S2x1x40000 : Shape := ⟨3, ![2, 1, 40000]⟩
abbrev S2x256x64 : Shape := ⟨3, ![2, 256, 64]⟩
abbrev S2x1x1 : Shape := ⟨3, ![2, 1, 1]⟩
abbrev S2x256x64x1 : Shape := ⟨4, ![2, 256, 64, 1]⟩
abbrev S2x256x64x2 : Shape := ⟨4, ![2, 256, 64, 2]⟩
abbrev S2x256x64x3 : Shape := ⟨4, ![2, 256, 64, 3]⟩
abbrev S2x256x1x3 : Shape := ⟨4, ![2, 256, 1, 3]⟩
abbrev S2x256x64x768 : Shape := ⟨4, ![2, 256, 64, 768]⟩
abbrev S512x64x768 : Shape := ⟨3, ![512, 64, 768]⟩
abbrev S512x768 : Shape := ⟨2, ![512, 768]⟩
abbrev S8x64x768 : Shape := ⟨3, ![8, 64, 768]⟩
abbrev S8x768 : Shape := ⟨2, ![8, 768]⟩
abbrev S2x256x768 : Shape := ⟨3, ![2, 256, 768]⟩

abbrev nBuf : Space → Nat
  | .hbm => 150
  | .vmem => 4
  | .smem => 0
  | _ => 0

abbrev hbmTy0_0 (i : Nat) : BufTy := match i % 128 with
  | 0 => ⟨S2x40000x3, .f32⟩
  | 1 => ⟨S2x40000x768, .f32⟩
  | 2 => ⟨S_, .i32⟩
  | 3 => ⟨S_, .i32⟩
  | 4 => ⟨S2x256, .i32⟩
  | 5 => ⟨S_, .f32⟩
  | 6 => ⟨S2x40000, .f32⟩
  | 7 => ⟨S_, .i32⟩
  | 8 => ⟨S2, .i32⟩
  | 9 => ⟨S_, .i32⟩
  | 10 => ⟨S_, .i32⟩
  | 11 => ⟨S2x40000x3, .f32⟩
  | 12 => ⟨S_, .i32⟩
  | 13 => ⟨S_, .i32⟩
  | 14 => ⟨S2x256, .i32⟩
  | 15 => ⟨S2x40000, .f32⟩
  | 16 => ⟨S2, .i32⟩
  | 17 => ⟨S_, .i32⟩
  | 18 => ⟨S_, .i1⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1, .i32⟩
  | 28 => ⟨S2x256, .i32⟩
  | 29 => ⟨S2, .i32⟩
  | 30 => ⟨S_, .i32⟩
  | 31 => ⟨S2, .i32⟩
  | 32 => ⟨S2, .i1⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i1⟩
  | 40 => ⟨S_, .i32⟩
  | 41 => ⟨S2, .i32⟩
  | 42 => ⟨S2, .i32⟩
  | 43 => ⟨S2, .i32⟩
  | 44 => ⟨S2x1, .i32⟩
  | 45 => ⟨S2x1, .i32⟩
  | 46 => ⟨S2x2, .i32⟩
  | 47 => ⟨S2x3, .f32⟩
  | 48 => ⟨S2x1x3, .f32⟩
  | 49 => ⟨S2x40000x3, .f32⟩
  | 50 => ⟨S2x40000x3, .f32⟩
  | 51 => ⟨S2x40000x3, .f32⟩
  | 52 => ⟨S_, .f32⟩
  | 53 => ⟨S2x40000, .f32⟩
  | 54 => ⟨S2x40000, .f32⟩
  | 55 => ⟨S2x40000, .i32⟩
  | 56 => ⟨S_, .f32⟩
  | 57 => ⟨S_, .i32⟩
  | 58 => ⟨S2, .f32⟩
  | 59 => ⟨S2, .i32⟩
  | 60 => ⟨S_, .i32⟩
  | 61 => ⟨S_, .i32⟩
  | 62 => ⟨S2, .i32⟩
  | 63 => ⟨S2x1, .i32⟩
  | 64 => ⟨S_, .i32⟩
  | 65 => ⟨S2x1, .i32⟩
  | 66 => ⟨S2x1, .i1⟩
  | 67 => ⟨S_, .i32⟩
  | 68 => ⟨S2x1, .i32⟩
  | 69 => ⟨S2x1, .i32⟩
  | 70 => ⟨S2x1, .i32⟩
  | 71 => ⟨S_, .i32⟩
  | 72 => ⟨S2x256, .i32⟩
  | 73 => ⟨S2x256, .i1⟩
  | 74 => ⟨S_, .i32⟩
  | 75 => ⟨S2x256, .i32⟩
  | 76 => ⟨S2x256, .i32⟩
  | 77 => ⟨S2x256, .i32⟩
  | 78 => ⟨S2x256, .i32⟩
  | 79 => ⟨S2x256x1, .i32⟩
  | 80 => ⟨S2x256x1, .i32⟩
  | 81 => ⟨S2x256x2, .i32⟩
  | 82 => ⟨S2x256x3, .f32⟩
  | 83 => ⟨S2x256x3, .f32⟩
  | 84 => ⟨S_, .f32⟩
  | 85 => ⟨S2x256, .f32⟩
  | 86 => ⟨S2x256x1, .f32⟩
  | 87 => ⟨S2x256x40000, .f32⟩
  | 88 => ⟨S_, .f32⟩
  | 89 => ⟨S2x256x40000, .f32⟩
  | 90 => ⟨S2x256x40000, .f32⟩
  | 91 => ⟨S2x256x40000, .f32⟩
  | 92 => ⟨S2x256x40000, .f32⟩
  | 93 => ⟨S2x40000x3, .f32⟩
  | 94 => ⟨S_, .f32⟩
  | 95 => ⟨S2x40000, .f32⟩
  | 96 => ⟨S2x1x40000, .f32⟩
  | 97 => ⟨S2x256x40000, .f32⟩
  | 98 => ⟨S2x256x40000, .f32⟩
  | 99 => ⟨S2x256x40000, .f32⟩
  | 100 => ⟨S2x256x64, .f32⟩
  | 101 => ⟨S2x256x64, .i32⟩
  | 102 => ⟨S2, .i32⟩
  | 103 => ⟨S2x1x1, .i32⟩
  | 104 => ⟨S_, .i32⟩
  | 105 => ⟨S2x1x1, .i32⟩
  | 106 => ⟨S2x1x1, .i1⟩
  | 107 => ⟨S_, .i32⟩
  | 108 => ⟨S2x1x1, .i32⟩
  | 109 => ⟨S2x1x1, .i32⟩
  | 110 => ⟨S2x1x1, .i32⟩
  | 111 => ⟨S_, .i32⟩
  | 112 => ⟨S2x256x64, .i32⟩
  | 113 => ⟨S2x256x64, .i1⟩
  | 114 => ⟨S_, .i32⟩
  | 115 => ⟨S2x256x64, .i32⟩
  | 116 => ⟨S2x256x64, .i32⟩
  | 117 => ⟨S2x256x64, .i32⟩
  | 118 => ⟨S2x256x64, .i32⟩
  | 119 => ⟨S2x256x64x1, .i32⟩
  | 120 => ⟨S2x256x64x1, .i32⟩
  | 121 => ⟨S2x256x64x2, .i32⟩
  | 122 => ⟨S2x256x64x3, .f32⟩
  | 123 => ⟨S2x256x1x3, .f32⟩
  | 124 => ⟨S2x256x64x3, .f32⟩
  | 125 => ⟨S2x256x64x3, .f32⟩
  | 126 => ⟨S_, .i32⟩
  | 127 => ⟨S2x1x1, .i32⟩
  | _ => ⟨S2x40000x3, .f32⟩

abbrev hbmTy0_1 (i : Nat) : BufTy := match i % 128 with
  | 0 => ⟨S2x1x1, .i1⟩
  | 1 => ⟨S_, .i32⟩
  | 2 => ⟨S2x1x1, .i32⟩
  | 3 => ⟨S2x1x1, .i32⟩
  | 4 => ⟨S2x1x1, .i32⟩
  | 5 => ⟨S_, .i32⟩
  | 6 => ⟨S2x256x64, .i32⟩
  | 7 => ⟨S2x256x64, .i1⟩
  | 8 => ⟨S_, .i32⟩
  | 9 => ⟨S2x256x64, .i32⟩
  | 10 => ⟨S2x256x64, .i32⟩
  | 11 => ⟨S2x256x64, .i32⟩
  | 12 => ⟨S2x256x64, .i32⟩
  | 13 => ⟨S2x256x64x1, .i32⟩
  | 14 => ⟨S2x256x64x1, .i32⟩
  | 15 => ⟨S2x256x64x2, .i32⟩
  | 16 => ⟨S2x256x64x768, .f32⟩
  | 17 => ⟨S512x64x768, .f32⟩
  | 18 => ⟨S512x768, .f32⟩
  | 19 => ⟨S2x256x768, .f32⟩
  | 20 => ⟨S_, .f32⟩
  | 21 => ⟨S2x256, .f32⟩
  | _ => ⟨S2x40000x3, .f32⟩

abbrev hbmTy (i : Nat) : BufTy := match i / 128 with
  | 0 => hbmTy0_0 i
  | 1 => hbmTy0_1 i
  | _ => ⟨S2x40000x3, .f32⟩

abbrev bufTy : (tb : Table) → Fin (tcTables nBuf tb) → BufTy
  | .hbm, ⟨i, _⟩ => hbmTy i
  | .local _ .vmem, ⟨0, _⟩ => ⟨S8x64x768, .f32⟩
  | .local _ .vmem, ⟨1, _⟩ => ⟨S8x64x768, .f32⟩
  | .local _ .vmem, ⟨2, _⟩ => ⟨S8x768, .f32⟩
  | .local _ .vmem, ⟨3, _⟩ => ⟨S8x768, .f32⟩
  | _, _ => ⟨S2x40000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_while0c_c_24 : Ref sig .tc := ⟨.hbm, 17, rfl⟩
abbrev main_while0c_v74 : Ref sig .tc := ⟨.hbm, 18, rfl⟩
abbrev main_while0b_c_24 : Ref sig .tc := ⟨.hbm, 19, rfl⟩
abbrev main_while0b_v74 : Ref sig .tc := ⟨.hbm, 20, rfl⟩
abbrev main_while0b_c_25 : Ref sig .tc := ⟨.hbm, 21, rfl⟩
abbrev main_while0b_v75 : Ref sig .tc := ⟨.hbm, 22, rfl⟩
abbrev main_while0b_c_26 : Ref sig .tc := ⟨.hbm, 23, rfl⟩
abbrev main_while0b_v76 : Ref sig .tc := ⟨.hbm, 24, rfl⟩
abbrev main_while0b_v77 : Ref sig .tc := ⟨.hbm, 25, rfl⟩
abbrev main_while0b_v78 : Ref sig .tc := ⟨.hbm, 26, rfl⟩
abbrev main_while0b_v79 : Ref sig .tc := ⟨.hbm, 27, rfl⟩
abbrev main_while0b_v80 : Ref sig .tc := ⟨.hbm, 28, rfl⟩
abbrev main_while0b_v81 : Ref sig .tc := ⟨.hbm, 29, rfl⟩
abbrev main_while0b_c_27 : Ref sig .tc := ⟨.hbm, 30, rfl⟩
abbrev main_while0b_v82 : Ref sig .tc := ⟨.hbm, 31, rfl⟩
abbrev main_while0b_v83 : Ref sig .tc := ⟨.hbm, 32, rfl⟩
abbrev main_while0b_c_28 : Ref sig .tc := ⟨.hbm, 33, rfl⟩
abbrev main_while0b_v84 : Ref sig .tc := ⟨.hbm, 34, rfl⟩
abbrev main_while0b_v85 : Ref sig .tc := ⟨.hbm, 35, rfl⟩
abbrev main_while0b_v86 : Ref sig .tc := ⟨.hbm, 36, rfl⟩
abbrev main_while0b_c_29 : Ref sig .tc := ⟨.hbm, 37, rfl⟩
abbrev main_while0b_v87 : Ref sig .tc := ⟨.hbm, 38, rfl⟩
abbrev main_while0b_v88 : Ref sig .tc := ⟨.hbm, 39, rfl⟩
abbrev main_while0b_c_30 : Ref sig .tc := ⟨.hbm, 40, rfl⟩
abbrev main_while0b_v89 : Ref sig .tc := ⟨.hbm, 41, rfl⟩
abbrev main_while0b_v90 : Ref sig .tc := ⟨.hbm, 42, rfl⟩
abbrev main_while0b_v91 : Ref sig .tc := ⟨.hbm, 43, rfl⟩
abbrev main_while0b_v92 : Ref sig .tc := ⟨.hbm, 44, rfl⟩
abbrev main_while0b_v93 : Ref sig .tc := ⟨.hbm, 45, rfl⟩
abbrev main_while0b_v94 : Ref sig .tc := ⟨.hbm, 46, rfl⟩
abbrev main_while0b_v95 : Ref sig .tc := ⟨.hbm, 47, rfl⟩
abbrev main_while0b_v96 : Ref sig .tc := ⟨.hbm, 48, rfl⟩
abbrev main_while0b_v97 : Ref sig .tc := ⟨.hbm, 49, rfl⟩
abbrev main_while0b_v98 : Ref sig .tc := ⟨.hbm, 50, rfl⟩
abbrev main_while0b_v99 : Ref sig .tc := ⟨.hbm, 51, rfl⟩
abbrev main_while0b_cst_31 : Ref sig .tc := ⟨.hbm, 52, rfl⟩
abbrev main_while0b_v100 : Ref sig .tc := ⟨.hbm, 53, rfl⟩
abbrev main_while0b_v101 : Ref sig .tc := ⟨.hbm, 54, rfl⟩
abbrev main_while0b_call0_v0 : Ref sig .tc := ⟨.hbm, 55, rfl⟩
abbrev main_while0b_call0_cst : Ref sig .tc := ⟨.hbm, 56, rfl⟩
abbrev main_while0b_call0_c : Ref sig .tc := ⟨.hbm, 57, rfl⟩
abbrev main_while0b_call0_v1_0 : Ref sig .tc := ⟨.hbm, 58, rfl⟩
abbrev main_while0b_v102 : Ref sig .tc := ⟨.hbm, 59, rfl⟩
abbrev main_while0b_c_32 : Ref sig .tc := ⟨.hbm, 60, rfl⟩
abbrev main_while0b_v103 : Ref sig .tc := ⟨.hbm, 61, rfl⟩
abbrev main_v4 : Ref sig .tc := ⟨.hbm, 62, rfl⟩
abbrev main_v5 : Ref sig .tc := ⟨.hbm, 63, rfl⟩
abbrev main_c_3 : Ref sig .tc := ⟨.hbm, 64, rfl⟩
abbrev main_v6 : Ref sig .tc := ⟨.hbm, 65, rfl⟩
abbrev main_v7 : Ref sig .tc := ⟨.hbm, 66, rfl⟩
abbrev main_c_4 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_c_5 : Ref sig .tc := ⟨.hbm, 71, rfl⟩
abbrev main_v11 : Ref sig .tc := ⟨.hbm, 72, rfl⟩
abbrev main_v12 : Ref sig .tc := ⟨.hbm, 73, rfl⟩
abbrev main_c_6 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_7 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_cst_8 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_9 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_values : Ref sig .tc := ⟨.hbm, 100, rfl⟩
abbrev main_indices : Ref sig .tc := ⟨.hbm, 101, rfl⟩
abbrev main_v35 : Ref sig .tc := ⟨.hbm, 102, rfl⟩
abbrev main_v36 : Ref sig .tc := ⟨.hbm, 103, rfl⟩
abbrev main_c_10 : Ref sig .tc := ⟨.hbm, 104, rfl⟩
abbrev main_v37 : Ref sig .tc := ⟨.hbm, 105, rfl⟩
abbrev main_v38 : Ref sig .tc := ⟨.hbm, 106, rfl⟩
abbrev main_c_11 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_c_12 : Ref sig .tc := ⟨.hbm, 111, rfl⟩
abbrev main_v42 : Ref sig .tc := ⟨.hbm, 112, rfl⟩
abbrev main_v43 : Ref sig .tc := ⟨.hbm, 113, rfl⟩
abbrev main_c_13 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_c_14 : Ref sig .tc := ⟨.hbm, 126, rfl⟩
abbrev main_v55 : Ref sig .tc := ⟨.hbm, 127, rfl⟩
abbrev main_v56 : Ref sig .tc := ⟨.hbm, 128, rfl⟩
abbrev main_c_15 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_c_16 : Ref sig .tc := ⟨.hbm, 133, rfl⟩
abbrev main_v60 : Ref sig .tc := ⟨.hbm, 134, rfl⟩
abbrev main_v61 : Ref sig .tc := ⟨.hbm, 135, rfl⟩
abbrev main_c_17 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_18 : Ref sig .tc := ⟨.hbm, 148, rfl⟩
abbrev main_v73 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev main_while0_count : Scf.Loop 32 := ⟨0#32, 256#32, 1#32⟩

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x40000x3 : Shape := ⟨3, ![2, 40000, 3]⟩
abbrev S2x40000x768 : Shape := ⟨3, ![2, 40000, 768]⟩
abbrev S_ : Shape := ⟨0, ![]⟩
abbrev S2x40000x771 : Shape := ⟨3, ![2, 40000, 771]⟩
abbrev S2x256 : Shape := ⟨2, ![2, 256]⟩
abbrev S2x40000 : Shape := ⟨2, ![2, 40000]⟩
abbrev S2 : Shape := ⟨1, ![2]⟩
abbrev S1 : Shape := ⟨1, ![1]⟩
abbrev S2x1 : Shape := ⟨2, ![2, 1]⟩
abbrev S2x2 : Shape := ⟨2, ![2, 2]⟩
abbrev S2x3 : Shape := ⟨2, ![2, 3]⟩
abbrev S2x1x3 : Shape := ⟨3, ![2, 1, 3]⟩
abbrev S2x256x1 : Shape := ⟨3, ![2, 256, 1]⟩
abbrev S2x256x2 : Shape := ⟨3, ![2, 256, 2]⟩
abbrev S2x256x3 : Shape := ⟨3, ![2, 256, 3]⟩
abbrev S2x256x40000 : Shape := ⟨3, ![2, 256, 40000]⟩
abbrev S2x1x40000 : Shape := ⟨3, ![2, 1, 40000]⟩
abbrev S2x256x64 : Shape := ⟨3, ![2, 256, 64]⟩
abbrev S2x1x1 : Shape := ⟨3, ![2, 1, 1]⟩
abbrev S2x256x64x1 : Shape := ⟨4, ![2, 256, 64, 1]⟩
abbrev S2x256x64x2 : Shape := ⟨4, ![2, 256, 64, 2]⟩
abbrev S2x256x64x771 : Shape := ⟨4, ![2, 256, 64, 771]⟩
abbrev S2x256x64x3 : Shape := ⟨4, ![2, 256, 64, 3]⟩
abbrev S2x256x1x3 : Shape := ⟨4, ![2, 256, 1, 3]⟩
abbrev S2x256x64x768 : Shape := ⟨4, ![2, 256, 64, 768]⟩
abbrev S2x256x768 : Shape := ⟨3, ![2, 256, 768]⟩

abbrev nBuf : Space → Nat
  | .hbm => 140
  | .vmem => 0
  | .smem => 0
  | _ => 0

abbrev hbmTy0_0 (i : Nat) : BufTy := match i % 128 with
  | 0 => ⟨S2x40000x3, .f32⟩
  | 1 => ⟨S2x40000x768, .f32⟩
  | 2 => ⟨S_, .i32⟩
  | 3 => ⟨S2x40000x771, .f32⟩
  | 4 => ⟨S2x40000x3, .f32⟩
  | 5 => ⟨S_, .i32⟩
  | 6 => ⟨S2x256, .i32⟩
  | 7 => ⟨S_, .f32⟩
  | 8 => ⟨S2x40000, .f32⟩
  | 9 => ⟨S_, .i32⟩
  | 10 => ⟨S2, .i32⟩
  | 11 => ⟨S_, .i32⟩
  | 12 => ⟨S_, .i32⟩
  | 13 => ⟨S2x40000x3, .f32⟩
  | 14 => ⟨S_, .i32⟩
  | 15 => ⟨S_, .i32⟩
  | 16 => ⟨S2x256, .i32⟩
  | 17 => ⟨S2x40000, .f32⟩
  | 18 => ⟨S2, .i32⟩
  | 19 => ⟨S_, .i32⟩
  | 20 => ⟨S_, .i1⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1, .i32⟩
  | 30 => ⟨S2x256, .i32⟩
  | 31 => ⟨S2, .i32⟩
  | 32 => ⟨S_, .i32⟩
  | 33 => ⟨S2, .i32⟩
  | 34 => ⟨S2, .i1⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i1⟩
  | 42 => ⟨S_, .i32⟩
  | 43 => ⟨S2, .i32⟩
  | 44 => ⟨S2, .i32⟩
  | 45 => ⟨S2, .i32⟩
  | 46 => ⟨S2x1, .i32⟩
  | 47 => ⟨S2x1, .i32⟩
  | 48 => ⟨S2x2, .i32⟩
  | 49 => ⟨S2x3, .f32⟩
  | 50 => ⟨S2x1x3, .f32⟩
  | 51 => ⟨S2x40000x3, .f32⟩
  | 52 => ⟨S2x40000x3, .f32⟩
  | 53 => ⟨S2x40000x3, .f32⟩
  | 54 => ⟨S_, .f32⟩
  | 55 => ⟨S2x40000, .f32⟩
  | 56 => ⟨S2x40000, .f32⟩
  | 57 => ⟨S2x40000, .i32⟩
  | 58 => ⟨S_, .f32⟩
  | 59 => ⟨S_, .i32⟩
  | 60 => ⟨S2, .f32⟩
  | 61 => ⟨S2, .i32⟩
  | 62 => ⟨S_, .i32⟩
  | 63 => ⟨S_, .i32⟩
  | 64 => ⟨S2, .i32⟩
  | 65 => ⟨S2x1, .i32⟩
  | 66 => ⟨S_, .i32⟩
  | 67 => ⟨S2x1, .i32⟩
  | 68 => ⟨S2x1, .i1⟩
  | 69 => ⟨S_, .i32⟩
  | 70 => ⟨S2x1, .i32⟩
  | 71 => ⟨S2x1, .i32⟩
  | 72 => ⟨S2x1, .i32⟩
  | 73 => ⟨S_, .i32⟩
  | 74 => ⟨S2x256, .i32⟩
  | 75 => ⟨S2x256, .i1⟩
  | 76 => ⟨S_, .i32⟩
  | 77 => ⟨S2x256, .i32⟩
  | 78 => ⟨S2x256, .i32⟩
  | 79 => ⟨S2x256, .i32⟩
  | 80 => ⟨S2x256, .i32⟩
  | 81 => ⟨S2x256x1, .i32⟩
  | 82 => ⟨S2x256x1, .i32⟩
  | 83 => ⟨S2x256x2, .i32⟩
  | 84 => ⟨S2x256x3, .f32⟩
  | 85 => ⟨S2x256x3, .f32⟩
  | 86 => ⟨S_, .f32⟩
  | 87 => ⟨S2x256, .f32⟩
  | 88 => ⟨S2x256x1, .f32⟩
  | 89 => ⟨S2x256x40000, .f32⟩
  | 90 => ⟨S_, .f32⟩
  | 91 => ⟨S2x256x40000, .f32⟩
  | 92 => ⟨S2x256x40000, .f32⟩
  | 93 => ⟨S2x256x40000, .f32⟩
  | 94 => ⟨S2x256x40000, .f32⟩
  | 95 => ⟨S2x40000x3, .f32⟩
  | 96 => ⟨S_, .f32⟩
  | 97 => ⟨S2x40000, .f32⟩
  | 98 => ⟨S2x1x40000, .f32⟩
  | 99 => ⟨S2x256x40000, .f32⟩
  | 100 => ⟨S2x256x40000, .f32⟩
  | 101 => ⟨S2x256x40000, .f32⟩
  | 102 => ⟨S2x256x64, .f32⟩
  | 103 => ⟨S2x256x64, .i32⟩
  | 104 => ⟨S2, .i32⟩
  | 105 => ⟨S2x1x1, .i32⟩
  | 106 => ⟨S_, .i32⟩
  | 107 => ⟨S2x1x1, .i32⟩
  | 108 => ⟨S2x1x1, .i1⟩
  | 109 => ⟨S_, .i32⟩
  | 110 => ⟨S2x1x1, .i32⟩
  | 111 => ⟨S2x1x1, .i32⟩
  | 112 => ⟨S2x1x1, .i32⟩
  | 113 => ⟨S_, .i32⟩
  | 114 => ⟨S2x256x64, .i32⟩
  | 115 => ⟨S2x256x64, .i1⟩
  | 116 => ⟨S_, .i32⟩
  | 117 => ⟨S2x256x64, .i32⟩
  | 118 => ⟨S2x256x64, .i32⟩
  | 119 => ⟨S2x256x64, .i32⟩
  | 120 => ⟨S2x256x64, .i32⟩
  | 121 => ⟨S2x256x64x1, .i32⟩
  | 122 => ⟨S2x256x64x1, .i32⟩
  | 123 => ⟨S2x256x64x2, .i32⟩
  | 124 => ⟨S2x256x64x771, .f32⟩
  | 125 => ⟨S2x256x64x3, .f32⟩
  | 126 => ⟨S2x256x1x3, .f32⟩
  | 127 => ⟨S2x256x64x3, .f32⟩
  | _ => ⟨S2x40000x3, .f32⟩

abbrev hbmTy0_1 (i : Nat) : BufTy := match i % 128 with
  | 0 => ⟨S2x256x64x3, .f32⟩
  | 1 => ⟨S2x256x64x768, .f32⟩
  | 2 => ⟨S2x256x64x771, .f32⟩
  | 3 => ⟨S2x256x64x3, .f32⟩
  | 4 => ⟨S2x256x64x768, .f32⟩
  | 5 => ⟨S_, .f32⟩
  | 6 => ⟨S2x256x768, .f32⟩
  | 7 => ⟨S_, .f32⟩
  | 8 => ⟨S2x256x768, .f32⟩
  | 9 => ⟨S2x256x768, .f32⟩
  | 10 => ⟨S_, .f32⟩
  | 11 => ⟨S2x256, .f32⟩
  | _ => ⟨S2x40000x3, .f32⟩

abbrev hbmTy (i : Nat) : BufTy := match i / 128 with
  | 0 => hbmTy0_0 i
  | 1 => hbmTy0_1 i
  | _ => ⟨S2x40000x3, .f32⟩

abbrev bufTy : (tb : Table) → Fin (tcTables nBuf tb) → BufTy
  | .hbm, ⟨i, _⟩ => hbmTy i
  | _, _ => ⟨S2x40000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_while0c_c_22 : Ref sig .tc := ⟨.hbm, 19, rfl⟩
abbrev main_while0c_v66 : Ref sig .tc := ⟨.hbm, 20, rfl⟩
abbrev main_while0b_c_22 : Ref sig .tc := ⟨.hbm, 21, rfl⟩
abbrev main_while0b_v66 : Ref sig .tc := ⟨.hbm, 22, rfl⟩
abbrev main_while0b_c_23 : Ref sig .tc := ⟨.hbm, 23, rfl⟩
abbrev main_while0b_v67 : Ref sig .tc := ⟨.hbm, 24, rfl⟩
abbrev main_while0b_c_24 : Ref sig .tc := ⟨.hbm, 25, rfl⟩
abbrev main_while0b_v68 : Ref sig .tc := ⟨.hbm, 26, rfl⟩
abbrev main_while0b_v69 : Ref sig .tc := ⟨.hbm, 27, rfl⟩
abbrev main_while0b_v70 : Ref sig .tc := ⟨.hbm, 28, rfl⟩
abbrev main_while0b_v71 : Ref sig .tc := ⟨.hbm, 29, rfl⟩
abbrev main_while0b_v72 : Ref sig .tc := ⟨.hbm, 30, rfl⟩
abbrev main_while0b_v73 : Ref sig .tc := ⟨.hbm, 31, rfl⟩
abbrev main_while0b_c_25 : Ref sig .tc := ⟨.hbm, 32, rfl⟩
abbrev main_while0b_v74 : Ref sig .tc := ⟨.hbm, 33, rfl⟩
abbrev main_while0b_v75 : Ref sig .tc := ⟨.hbm, 34, rfl⟩
abbrev main_while0b_c_26 : Ref sig .tc := ⟨.hbm, 35, rfl⟩
abbrev main_while0b_v76 : Ref sig .tc := ⟨.hbm, 36, rfl⟩
abbrev main_while0b_v77 : Ref sig .tc := ⟨.hbm, 37, rfl⟩
abbrev main_while0b_v78 : Ref sig .tc := ⟨.hbm, 38, rfl⟩
abbrev main_while0b_c_27 : Ref sig .tc := ⟨.hbm, 39, rfl⟩
abbrev main_while0b_v79 : Ref sig .tc := ⟨.hbm, 40, rfl⟩
abbrev main_while0b_v80 : Ref sig .tc := ⟨.hbm, 41, rfl⟩
abbrev main_while0b_c_28 : Ref sig .tc := ⟨.hbm, 42, rfl⟩
abbrev main_while0b_v81 : Ref sig .tc := ⟨.hbm, 43, rfl⟩
abbrev main_while0b_v82 : Ref sig .tc := ⟨.hbm, 44, rfl⟩
abbrev main_while0b_v83 : Ref sig .tc := ⟨.hbm, 45, rfl⟩
abbrev main_while0b_v84 : Ref sig .tc := ⟨.hbm, 46, rfl⟩
abbrev main_while0b_v85 : Ref sig .tc := ⟨.hbm, 47, rfl⟩
abbrev main_while0b_v86 : Ref sig .tc := ⟨.hbm, 48, rfl⟩
abbrev main_while0b_v87 : Ref sig .tc := ⟨.hbm, 49, rfl⟩
abbrev main_while0b_v88 : Ref sig .tc := ⟨.hbm, 50, rfl⟩
abbrev main_while0b_v89 : Ref sig .tc := ⟨.hbm, 51, rfl⟩
abbrev main_while0b_v90 : Ref sig .tc := ⟨.hbm, 52, rfl⟩
abbrev main_while0b_v91 : Ref sig .tc := ⟨.hbm, 53, rfl⟩
abbrev main_while0b_cst_29 : Ref sig .tc := ⟨.hbm, 54, rfl⟩
abbrev main_while0b_v92 : Ref sig .tc := ⟨.hbm, 55, rfl⟩
abbrev main_while0b_v93 : Ref sig .tc := ⟨.hbm, 56, rfl⟩
abbrev main_while0b_call0_v0 : Ref sig .tc := ⟨.hbm, 57, rfl⟩
abbrev main_while0b_call0_cst : Ref sig .tc := ⟨.hbm, 58, rfl⟩
abbrev main_while0b_call0_c : Ref sig .tc := ⟨.hbm, 59, rfl⟩
abbrev main_while0b_call0_v1_0 : Ref sig .tc := ⟨.hbm, 60, rfl⟩
abbrev main_while0b_v94 : Ref sig .tc := ⟨.hbm, 61, rfl⟩
abbrev main_while0b_c_30 : Ref sig .tc := ⟨.hbm, 62, rfl⟩
abbrev main_while0b_v95 : Ref sig .tc := ⟨.hbm, 63, rfl⟩
abbrev main_v6 : Ref sig .tc := ⟨.hbm, 64, rfl⟩
abbrev main_v7 : Ref sig .tc := ⟨.hbm, 65, rfl⟩
abbrev main_c_3 : Ref sig .tc := ⟨.hbm, 66, rfl⟩
abbrev main_v8 : Ref sig .tc := ⟨.hbm, 67, rfl⟩
abbrev main_v9 : Ref sig .tc := ⟨.hbm, 68, rfl⟩
abbrev main_c_4 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_5 : Ref sig .tc := ⟨.hbm, 73, rfl⟩
abbrev main_v13 : Ref sig .tc := ⟨.hbm, 74, rfl⟩
abbrev main_v14 : Ref sig .tc := ⟨.hbm, 75, rfl⟩
abbrev main_c_6 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst_7 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_8 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_9 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_values : Ref sig .tc := ⟨.hbm, 102, rfl⟩
abbrev main_indices : Ref sig .tc := ⟨.hbm, 103, rfl⟩
abbrev main_v37 : Ref sig .tc := ⟨.hbm, 104, rfl⟩
abbrev main_v38 : Ref sig .tc := ⟨.hbm, 105, rfl⟩
abbrev main_c_10 : Ref sig .tc := ⟨.hbm, 106, rfl⟩
abbrev main_v39 : Ref sig .tc := ⟨.hbm, 107, rfl⟩
abbrev main_v40 : Ref sig .tc := ⟨.hbm, 108, rfl⟩
abbrev main_c_11 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_c_12 : Ref sig .tc := ⟨.hbm, 113, rfl⟩
abbrev main_v44 : Ref sig .tc := ⟨.hbm, 114, rfl⟩
abbrev main_v45 : Ref sig .tc := ⟨.hbm, 115, rfl⟩
abbrev main_c_13 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_14 : Ref sig .tc := ⟨.hbm, 133, rfl⟩
abbrev main_v62 : Ref sig .tc := ⟨.hbm, 134, rfl⟩
abbrev main_cst_15 : Ref sig .tc := ⟨.hbm, 135, rfl⟩
abbrev main_v63 : Ref sig .tc := ⟨.hbm, 136, rfl⟩
abbrev main_v64 : Ref sig .tc := ⟨.hbm, 137, rfl⟩
abbrev main_cst_16 : Ref sig .tc := ⟨.hbm, 138, rfl⟩
abbrev main_v65 : Ref sig .tc := ⟨.hbm, 139, rfl⟩

abbrev nD : Nat := 1
abbrev τ : Topo := Topo.v7x

variable {F : FTy → Type} [FloatOps F]

abbrev main_while0_count : Scf.Loop 32 := ⟨0#32, 256#32, 1#32⟩
-- ==== Proof.KernelIdealLoop.lean ====
/-
  The host loop of @main: farthest point sampling, 256 trips. What its condition decides, what its carried counter
  holds before every trip, and that the loop leaves the program's arguments as they were.
-/
module

public import proofs.«01_k».proof.Proof.Gen.KernelIdeal.Launch
public import Idealize.ShloMosaic.Lib.StableHlo.RunLoop
public import Idealize.ShloMosaic.Lib.Scf.ExitTest
public import Idealize.ShloMosaic.Lib.Tactic

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs)
open Idealize.ShloMosaic.StableHlo (after afterL atTrip held)

variable {F : FTy → Type} [FloatOps F]

/-- The condition's two operations: the bound 256, and the comparison of the counter with it. -/
abbrev condOps : List (HloOp τ sig (Elt F)) :=
  [ StableHlo.nullary main_while0c_c_24 (constantI S_ 32 256#32),
    StableHlo.binary main_v3_1 main_while0c_c_24 main_while0c_v74 (cmpi .slt : (⟨S_, .i32⟩ : BufTy).Contents (Elt F) → (⟨S_, .i32⟩ : BufTy).Contents (Elt F) → (⟨S_, .i1⟩ : BufTy).Contents (Elt F)) ]

/-- The body's three stretches. -/
abbrev bodyI : List (List (HloOp τ sig (Elt F))) := [while0Ops0, while0Ops0_1, while0Ops0_2]

/-- The body's stretches touch the TensorCore's buffers only and allocate none. -/
theorem bodyI_plain : StableHlo.Plain (bodyI (F := F)) :=
  .cons while0Ops0_sub (.cons while0Ops0_1_sub (.cons while0Ops0_2_sub .nil))

/-! ## The counter -/

/-- No operation of the first stretch writes the counter. -/
theorem ctr_ops0 : ∀ op ∈ (while0Ops0 : List (HloOp τ sig (Elt F))), Proc.devRef .tc main_v3_1 ∉ op.writes := by
  intro op hop
  fin_cases hop <;> exact fun h => StableHlo.devRef_ne_of_ne (by decide) (Finset.mem_singleton.mp h)

/-- No operation of the second stretch writes the counter. -/
theorem ctr_ops1 : ∀ op ∈ (while0Ops0_1 : List (HloOp τ sig (Elt F))), Proc.devRef .tc main_v3_1 ∉ op.writes := by
  intro op hop
  fin_cases hop <;> exact fun h => StableHlo.devRef_ne_of_ne (by decide) (Finset.mem_singleton.mp h)

/-- Neither operation of the condition writes the counter. -/
theorem ctr_cond : ∀ op ∈ (condOps : List (HloOp τ sig (Elt F))), Proc.devRef .tc main_v3_1 ∉ op.writes := by
  intro op hop
  fin_cases hop <;> exact fun h => StableHlo.devRef_ne_of_ne (by decide) (Finset.mem_singleton.mp h)

/-- The third stretch adds one to the counter. -/
theorem ctr_ops2 (X : Valuation τ sig (Elt F)) : after while0Ops0_2 X main_v3_1
    = (addi (X main_v3_1) (fun _ => (1#32 : BitVec 32)) : (⟨S_, .i32⟩ : BufTy).Contents (Elt F)) := by
  rw [while0Ops0_2]
  simp only [StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.unary_result, StableHlo.binary_result, StableHlo.nullary_result_ne _ _ _ _ (by decide), StableHlo.nullary_result]
  rfl

/-- Before trip `k` the counter holds `k`, if it held zero at the loop's entry. -/
theorem ctr_trip (W : Dev nD → Valuation τ sig (Elt F)) (h0 : ∀ c, W c main_v3_1 = fun _ => (0#32 : BitVec 32)) (c : Dev nD) :
    ∀ k, atTrip condOps bodyI W k c main_v3_1 = fun _ => Scf.iv 0#32 1#32 k
  | 0 => by
    rw [StableHlo.atTrip_zero, h0 c, Scf.iv_zero]
  | k + 1 => by
    rw [StableHlo.atTrip_succ]
    simp only [StableHlo.afterL_cons, StableHlo.afterL_nil]
    rw [ctr_ops2, StableHlo.after_of_forall_not_mem _ _ ctr_ops1, StableHlo.after_of_forall_not_mem _ _ ctr_ops0,
      StableHlo.after_of_forall_not_mem _ _ ctr_cond, ctr_trip W h0 c k, Scf.iv_succ]
    rfl

-- a rule stated for any thread is applied at the TensorCore's
set_option backward.isDefEq.respectTransparency.types false in
/-- Run before trip `k`, the condition answers 1 exactly when `k` is less than 256, writes its own two buffers and
    nothing else, and hands back what rides along. -/
theorem cond_spec (𝒱₀ : Variants) {U : Type} [URA U] (Rc : Dev nD → sProp (MT nD τ sig Unit (Elt F) ℕ U ℕ))
    (W : Dev nD → Valuation τ sig (Elt F)) (h0 : ∀ c, W c main_v3_1 = fun _ => (0#32 : BitVec 32)) :
    StableHlo.LoopCond (pcfgs (F := F)) defs₀ 𝒱₀ loops Rc (main_while0_cond (F := F)) condOps bodyI W 256 := by
  intro k hk c bd
  have hctr := ctr_trip W h0 c k
  unfold main_while0_cond
  rw [wp_bind]
  iintro ⟨Hb, Hh, HR⟩
  iapply (StableHlo.wp_hlo_within (Variants.lift 𝒱₀) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within (Variants.lift 𝒱₀) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W k c) main_v3_1 HostLoop.idx0)
        (HloOp.result _ (atTrip condOps bodyI W k c) main_while0c_c_24 HostLoop.idx0) = 1#1) (k < 256)
    rw [StableHlo.nullary_result_ne _ _ _ _ (by decide), StableHlo.nullary_result, hctr]
    exact Scf.cmpi_slt_iv_ub_iff (lb := 0#32) (ub := 256#32) (st := 1#32) (by decide) (k := k) hk
  isplitl [Hb]; · iexact Hb
  isplitl [Hh]; · rw [StableHlo.after_cons, StableHlo.after_cons, StableHlo.after_nil]; iexact Hh
  iexact HR

/-- At the loop's entry the counter is zero. -/
theorem ctr_entry (X : Valuation τ sig (Elt F)) : after hostOps0 X main_v3_1 = fun _ => (0#32 : BitVec 32) := by
  rw [hostOps0]
  simp only [StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.unary_result, StableHlo.unary_result_ne _ _ _ _ _ _ (by decide), StableHlo.nullary_result]
  rfl

/-! ## The arguments -/

/-- A buffer that no operation of the loop writes is the same after any number of trips. -/
theorem trip_keeps (b : DevRef τ sig) (h : ∀ ops ∈ (condOps (F := F)) :: bodyI, ∀ op ∈ ops, b ∉ op.writes)
    (W : Dev nD → Valuation τ sig (Elt F)) (c : Dev nD) : ∀ k, atTrip condOps bodyI W k c b = W c b
  | 0 => rfl
  | k + 1 => by
    rw [StableHlo.atTrip_succ]
    simp only [StableHlo.afterL_cons, StableHlo.afterL_nil]
    rw [StableHlo.after_of_forall_not_mem _ _ (h _ (by simp)), StableHlo.after_of_forall_not_mem _ _ (h _ (by simp)),
      StableHlo.after_of_forall_not_mem _ _ (h _ (by simp)), StableHlo.after_of_forall_not_mem _ _ (h _ (by simp)),
      trip_keeps b h W c k]

end Cert.Proof.KernelIdeal

end
-- ==== Proof.ReferenceOps.lean ====
/-
  The reference program's host operations as lists, in the program's own order: those before its sampling loop, the
  loop's body in three stretches, and those after the loop in two. And that the program is the chain of these lists.
-/
module

public import proofs.«01_k».proof.Proof.Gen.ReferenceIdeal
public import Idealize.ShloMosaic.Lib.Pipeline.Regions
public import Idealize.ShloMosaic.Lib.StableHlo.RunLoop

@[expose] public section

set_option maxRecDepth 16384

noncomputable section

namespace Cert.Proof.ReferenceIdeal

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
/-- The operations before the loop: the points' and features' concatenation, the constants, the carried values' first contents. -/
abbrev preOps : List (HloOp τ sig (Elt F)) :=
  ( StableHlo.binary main_arg0 main_arg1 main_v0 ((fun a b => concatenate S2x40000x771 2 [⟨S2x40000x3, a⟩, ⟨S2x40000x768, b⟩] concatenates_S2x40000x3_S2x40000x768_S2x40000x771_d2) : (⟨S2x40000x3, .f32⟩ : BufTy).Contents (Elt F) → (⟨S2x40000x768, .f32⟩ : BufTy).Contents (Elt F) → (⟨S2x40000x771, .f32⟩ : BufTy).Contents (Elt F))
  :: StableHlo.unary main_v0 main_v1 ((extractStridedSlice S2x40000x3 ![0, 0, 0] · slices_S2x40000x771_S2x40000x3_0_0_0) : (⟨S2x40000x771, .f32⟩ : BufTy).Contents (Elt F) → (⟨S2x40000x3, .f32⟩ : BufTy).Contents (Elt F))
  :: StableHlo.nullary main_c (constantI S_ 32 0#32)
  :: StableHlo.unary main_c main_v2 (broadcastInDim S2x256 ![] bcast_S_S2x256 : (⟨S_, .i32⟩ : BufTy).Contents (Elt F) → (⟨S2x256, .i32⟩ : BufTy).Contents (Elt F))
  :: StableHlo.nullary main_cst (constant S_ .f32 0x501502F9#32)
  :: StableHlo.unary main_cst main_v3 (broadcastInDim S2x40000 ![] bcast_S_S2x40000 : (⟨S_, .f32⟩ : BufTy).Contents (Elt F) → (⟨S2x40000, .f32⟩ : BufTy).Contents (Elt F))
  :: StableHlo.nullary main_c_0 (constantI S_ 32 0#32)
  :: StableHlo.unary main_c_0 main_v4 (broadcastInDim S2 ![] bcast_S_S2 : (⟨S_, .i32⟩ : BufTy).Contents (Elt F) → (⟨S2, .i32⟩ : BufTy).Contents (Elt F))
  :: StableHlo.nullary main_c_1 (constantI S_ 32 0#32)
  :: StableHlo.nullary main_c_2 (constantI S_ 32 0#32)
  :: StableHlo.unary main_v1 main_v5_0 id
  :: StableHlo.unary main_c_2 main_v5_1 id
  :: StableHlo.unary main_c_1 main_v5_2 id
  :: StableHlo.unary main_v2 main_v5_3 id
  :: StableHlo.unary main_v3 main_v5_4 id
  :: StableHlo.unary main_v4 main_v5_5 id
  :: [] )

set_option maxHeartbeats 40000000 in
/-- Each touches the TensorCore's buffers only. -/
theorem preOps_sub : (preOps : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

set_option maxHeartbeats 40000000 in
/-- The loop's body up to the call of the arg-max: record the current point, update the distances. -/
abbrev bodyOps0 : List (HloOp τ sig (Elt F)) :=
  ( StableHlo.nullary main_while0b_c_22 (constantI S_ 32 1#32)
  :: StableHlo.binary main_v5_2 main_while0b_c_22 main_while0b_v66 (addi : (⟨S_, .i32⟩ : BufTy).Contents (Elt F) → (⟨S_, .i32⟩ : BufTy).Contents (Elt F) → (⟨S_, .i32⟩ : BufTy).Contents (Elt F))
  :: StableHlo.nullary main_while0b_c_23 (constantI S_ 32 0#32)
  :: StableHlo.binary main_v5_2 main_while0b_c_23 main_while0b_v67 (cmpi .slt : (⟨S_, .i32⟩ : BufTy).Contents (Elt F) → (⟨S_, .i32⟩ : BufTy).Contents (Elt F) → (⟨S_, .i1⟩ : BufTy).Contents (Elt F))
  :: StableHlo.nullary main_while0b_c_24 (constantI S_ 32 256#32)
  :: StableHlo.binary main_v5_2 main_while0b_c_24 main_while0b_v68 (addi : (⟨S_, .i32⟩ : BufTy).Contents (Elt F) → (⟨S_, .i32⟩ : BufTy).Contents (Elt F) → (⟨S_, .i32⟩ : BufTy).Contents (Elt F))
  :: StableHlo.ternary main_while0b_v67 main_while0b_v68 main_v5_2 main_while0b_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v69 main_while0b_v70 (id : (⟨S_, .i32⟩ : BufTy).Contents (Elt F) → (⟨S_, .i32⟩ : BufTy).Contents (Elt F))
  :: StableHlo.unary main_while0b_v70 main_while0b_v71 (broadcastInDim S1 ![] bcast_S_S1 : (⟨S_, .i32⟩ : BufTy).Contents (Elt F) → (⟨S1, .i32⟩ : BufTy).Contents (Elt F))
  :: StableHlo.ternary main_v5_3 main_while0b_v71 main_v5_5 main_while0b_v72 ((fun x i u => Host.scatter scatter_S2x256_S1_S2_0_1_1_0 (fun _ b => b) x i u) : (⟨S2x256, .i32⟩ : BufTy).Contents (Elt F) → (⟨S1, .i32⟩ : BufTy).Contents (Elt F) → (⟨S2, .i32⟩ : BufTy).Contents (Elt F) → (⟨S2x256, .i32⟩ : BufTy).Contents (Elt F))
  :: StableHlo.nullary main_while0b_v73 (iotaInDim S2 32 0)
  :: StableHlo.nullary main_while0b_c_25 (constantI S_ 32 0#32)
  :: StableHlo.unary main_while0b_c_25 main_while0b_v74 (broadcastInDim S2 ![] bcast_S_S2 : (⟨S_, .i32⟩ : BufTy).Contents (Elt F) → (⟨S2, .i32⟩ : BufTy).Contents (Elt F))
  :: StableHlo.binary main_while0b_v73 main_while0b_v74 main_while0b_v75 (cmpi .slt : (⟨S2, .i32⟩ : BufTy).Contents (Elt F) → (⟨S2, .i32⟩ : BufTy).Contents (Elt F) → (⟨S2, .i1⟩ : BufTy).Contents (Elt F))
  :: StableHlo.nullary main_while0b_c_26 (constantI S_ 32 2#32)
  :: StableHlo.unary main_while0b_c_26 main_while0b_v76 (broadcastInDim S2 ![] bcast_S_S2 : (⟨S_, .i32⟩ : BufTy).Contents (Elt F) → (⟨S2, .i32⟩ : BufTy).Contents (Elt F))
  :: StableHlo.binary main_while0b_v73 main_while0b_v76 main_while0b_v77 (addi : (⟨S2, .i32⟩ : BufTy).Contents (Elt F) → (⟨S2, .i32⟩ : BufTy).Contents (Elt F) → (⟨S2, .i32⟩ : BufTy).Contents (Elt F))
  :: StableHlo.ternary main_while0b_v75 main_while0b_v77 main_while0b_v73 main_while0b_v78 (select : (⟨S2, .i1⟩ : BufTy).Contents (Elt F) → (⟨S2, .i32⟩ : BufTy).Contents (Elt F) → (⟨S2, .i32⟩ : BufTy).Contents (Elt F) → (⟨S2, .i32⟩ : BufTy).Contents (Elt F))
  :: StableHlo.nullary main_while0b_c_27 (constantI S_ 32 0#32)
  :: StableHlo.unary main_while0b_c_27 main_while0b_v79 (broadcastInDim S2 ![] bcast_S_S2 : (⟨S_, .i32⟩ : BufTy).Contents (Elt F) → (⟨S2, .i32⟩ : BufTy).Contents (Elt F))
  :: StableHlo.binary main_v5_5 main_while0b_v79 main_while0b_v80 (cmpi .slt : (⟨S2, .i32⟩ : BufTy).Contents (Elt F) → (⟨S2, .i32⟩ : BufTy).Contents (Elt F) → (⟨S2, .i1⟩ : BufTy).Contents (Elt F))
  :: StableHlo.nullary main_while0b_c_28 (constantI S_ 32 40000#32)
  :: StableHlo.unary main_while0b_c_28 main_while0b_v81 (broadcastInDim S2 ![] bcast_S_S2 : (⟨S_, .i32⟩ : BufTy).Contents (Elt F) → (⟨S2, .i32⟩ : BufTy).Contents (Elt F))
  :: StableHlo.binary main_v5_5 main_while0b_v81 main_while0b_v82 (addi : (⟨S2, .i32⟩ : BufTy).Contents (Elt F) → (⟨S2, .i32⟩ : BufTy).Contents (Elt F) → (⟨S2, .i32⟩ : BufTy).Contents (Elt F))
  :: StableHlo.ternary main_while0b_v80 main_while0b_v82 main_v5_5 main_while0b_v83 (select : (⟨S2, .i1⟩ : BufTy).Contents (Elt F) → (⟨S2, .i32⟩ : BufTy).Contents (Elt F) → (⟨S2, .i32⟩ : BufTy).Contents (Elt F) → (⟨S2, .i32⟩ : BufTy).Contents (Elt F))
  :: StableHlo.unary main_while0b_v78 main_while0b_v84 (broadcastInDim S2x1 ![0] bcast_S2_S2x1_0 : (⟨S2, .i32⟩ : BufTy).Contents (Elt F) → (⟨S2x1, .i32⟩ : BufTy).Contents (Elt F))
  :: StableHlo.unary main_while0b_v83 main_while0b_v85 (broadcastInDim S2x1 ![0] bcast_S2_S2x1_0 : (⟨S2, .i32⟩ : BufTy).Contents (Elt F) → (⟨S2x1, .i32⟩ : BufTy).Contents (Elt F))
  :: StableHlo.binary main_while0b_v84 main_while0b_v85 main_while0b_v86 ((fun a b => concatenate S2x2 1 [⟨S2x1, a⟩, ⟨S2x1, b⟩] concatenates_S2x1_S2x1_S2x2_d1) : (⟨S2x1, .i32⟩ : BufTy).Contents (Elt F) → (⟨S2x1, .i32⟩ : BufTy).Contents (Elt F) → (⟨S2x2, .i32⟩ : BufTy).Contents (Elt F))
  :: StableHlo.binary main_v5_0 main_while0b_v86 main_while0b_v87 ((fun x i => Host.gather gather_S2x40000x3_S2x2_S2x3_1_01_n_n_01_1_113 x i) : (⟨S2x40000x3, .f32⟩ : BufTy).Contents (Elt F) → (⟨S2x2, .i32⟩ : BufTy).Contents (Elt F) → (⟨S2x3, .f32⟩ : BufTy).Contents (Elt F))
  :: StableHlo.unary main_while0b_v87 main_while0b_v88 (broadcastInDim S2x1x3 ![0, 2] bcast_S2x3_S2x1x3_0_2 : (⟨S2x3, .f32⟩ : BufTy).Contents (Elt F) → (⟨S2x1x3, .f32⟩ : BufTy).Contents (Elt F))
  :: StableHlo.unary main_while0b_v88 main_while0b_v89 (broadcastInDim S2x40000x3 ![0, 1, 2] bcast_S2x1x3_S2x40000x3_0_1_2 : (⟨S2x1x3, .f32⟩ : BufTy).Contents (Elt F) → (⟨S2x40000x3, .f32⟩ : BufTy).Contents (Elt F))
  :: StableHlo.binary main_v5_0 main_while0b_v89 main_while0b_v90 (subf : (⟨S2x40000x3, .f32⟩ : BufTy).Contents (Elt F) → (⟨S2x40000x3, .f32⟩ : BufTy).Contents (Elt F) → (⟨S2x40000x3, .f32⟩ : BufTy).Contents (Elt F))
  :: StableHlo.binary main_while0b_v90 main_while0b_v90 main_while0b_v91 (mulf : (⟨S2x40000x3, .f32⟩ : BufTy).Contents (Elt F) → (⟨S2x40000x3, .f32⟩ : BufTy).Contents (Elt F) → (⟨S2x40000x3, .f32⟩ : BufTy).Contents (Elt F))
  :: StableHlo.nullary main_while0b_cst_29 (constant S_ .f32 0x00000000#32)
  :: StableHlo.binary main_while0b_v91 main_while0b_cst_29 main_while0b_v92 ((fun x v => Host.reduceAdd x v reducesTo_S2x40000x3_S2x40000_d2 h_S_) : (⟨S2x40000x3, .f32⟩ : BufTy).Contents (Elt F) → (⟨S_, .f32⟩ : BufTy).Contents (Elt F) → (⟨S2x40000, .f32⟩ : BufTy).Contents (Elt F))
  :: StableHlo.binary main_v5_4 main_while0b_v92 main_while0b_v93 (minimumf : (⟨S2x40000, .f32⟩ : BufTy).Contents (Elt F) → (⟨S2x40000, .f32⟩ : BufTy).Contents (Elt F) → (⟨S2x40000, .f32⟩ : BufTy).Contents (Elt F))
  :: [] )

set_option maxHeartbeats 40000000 in
/-- Each touches the TensorCore's buffers only. -/
theorem bodyOps0_sub : (bodyOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub ..⟩

set_option maxHeartbeats 40000000 in
/-- The arg-max over the distances. -/
abbrev bodyOps1 : List (HloOp τ sig (Elt F)) :=
  ( StableHlo.TRef.nullary (.of main_while0b_call0_v0 : StableHlo.TRef sig ⟨S2x40000, .i32⟩) (iotaInDim S2x40000 32 1)
  :: StableHlo.TRef.nullary (.of main_while0b_call0_cst : StableHlo.TRef sig ⟨S_, .f32⟩) (constant S_ .f32 0xFF800000#32)
  :: StableHlo.TRef.nullary (.of main_while0b_call0_c : StableHlo.TRef sig ⟨S_, .i32⟩) (constantI S_ 32 0#32)
  :: StableHlo.TRef.quaternary (.of main_while0b_v93 : StableHlo.TRef sig ⟨S2x40000, .f32⟩) (.of main_while0b_call0_v0 : StableHlo.TRef sig ⟨S2x40000, .i32⟩) (.of main_while0b_call0_cst : StableHlo.TRef sig ⟨S_, .f32⟩) (.of main_while0b_call0_c : StableHlo.TRef sig ⟨S_, .i32⟩) (.of main_while0b_call0_v1_0 : StableHlo.TRef sig ⟨S2, .f32⟩) (fun x y u v j => (Host.argReduce reducer_argmax_f32_i32 x y u v reducesTo_S2x40000_S2_d1 h_S_ j).1)
  :: StableHlo.TRef.quaternary (.of main_while0b_v93 : StableHlo.TRef sig ⟨S2x40000, .f32⟩) (.of main_while0b_call0_v0 : StableHlo.TRef sig ⟨S2x40000, .i32⟩) (.of main_while0b_call0_cst : StableHlo.TRef sig ⟨S_, .f32⟩) (.of main_while0b_call0_c : StableHlo.TRef sig ⟨S_, .i32⟩) (.of main_while0b_v94 : StableHlo.TRef sig ⟨S2, .i32⟩) (fun x y u v j => (Host.argReduce reducer_argmax_f32_i32 x y u v reducesTo_S2x40000_S2_d1 h_S_ j).2)
  :: [] )

set_option maxHeartbeats 40000000 in
/-- Each touches the TensorCore's buffers only. -/
theorem bodyOps1_sub : (bodyOps1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

set_option maxHeartbeats 40000000 in
/-- The counter's increment and the copies back into the carried buffers. -/
abbrev bodyOps2 : List (HloOp τ sig (Elt F)) :=
  ( StableHlo.nullary main_while0b_c_30 (constantI S_ 32 1#32)
  :: StableHlo.binary main_v5_1 main_while0b_c_30 main_while0b_v95 (addi : (⟨S_, .i32⟩ : BufTy).Contents (Elt F) → (⟨S_, .i32⟩ : BufTy).Contents (Elt F) → (⟨S_, .i32⟩ : BufTy).Contents (Elt F))
  :: StableHlo.unary main_while0b_v95 main_v5_1 id
  :: StableHlo.unary main_while0b_v66 main_v5_2 id
  :: StableHlo.unary main_while0b_v72 main_v5_3 id
  :: StableHlo.unary main_while0b_v93 main_v5_4 id
  :: StableHlo.unary main_while0b_v94 main_v5_5 id
  :: [] )

set_option maxHeartbeats 40000000 in
/-- Each touches the TensorCore's buffers only. -/
theorem bodyOps2_sub : (bodyOps2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

set_option maxHeartbeats 40000000 in
/-- After the loop: the centers, the squared distances, the 64 nearest of each center. -/
abbrev postOps0 : List (HloOp τ sig (Elt F)) :=
  ( StableHlo.nullary main_v6 (iotaInDim S2 32 0)
  :: StableHlo.unary main_v6 main_v7 (broadcastInDim S2x1 ![0] bcast_S2_S2x1_0 : (⟨S2, .i32⟩ : BufTy).Contents (Elt F) → (⟨S2x1, .i32⟩ : BufTy).Contents (Elt F))
  :: StableHlo.nullary main_c_3 (constantI S_ 32 0#32)
  :: StableHlo.unary main_c_3 main_v8 (broadcastInDim S2x1 ![] bcast_S_S2x1 : (⟨S_, .i32⟩ : BufTy).Contents (Elt F) → (⟨S2x1, .i32⟩ : BufTy).Contents (Elt F))
  :: StableHlo.binary main_v7 main_v8 main_v9 (cmpi .slt : (⟨S2x1, .i32⟩ : BufTy).Contents (Elt F) → (⟨S2x1, .i32⟩ : BufTy).Contents (Elt F) → (⟨S2x1, .i1⟩ : BufTy).Contents (Elt F))
  :: StableHlo.nullary main_c_4 (constantI S_ 32 2#32)
  :: StableHlo.unary main_c_4 main_v10 (broadcastInDim S2x1 ![] bcast_S_S2x1 : (⟨S_, .i32⟩ : BufTy).Contents (Elt F) → (⟨S2x1, .i32⟩ : BufTy).Contents (Elt F))
  :: StableHlo.binary main_v7 main_v10 main_v11 (addi : (⟨S2x1, .i32⟩ : BufTy).Contents (Elt F) → (⟨S2x1, .i32⟩ : BufTy).Contents (Elt F) → (⟨S2x1, .i32⟩ : BufTy).Contents (Elt F))
  :: StableHlo.ternary main_v9 main_v11 main_v7 main_v12 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F))
  :: StableHlo.nullary main_c_5 (constantI S_ 32 0#32)
  :: StableHlo.unary main_c_5 main_v13 (broadcastInDim S2x256 ![] bcast_S_S2x256 : (⟨S_, .i32⟩ : BufTy).Contents (Elt F) → (⟨S2x256, .i32⟩ : BufTy).Contents (Elt F))
  :: StableHlo.binary main_v5_3 main_v13 main_v14 (cmpi .slt : (⟨S2x256, .i32⟩ : BufTy).Contents (Elt F) → (⟨S2x256, .i32⟩ : BufTy).Contents (Elt F) → (⟨S2x256, .i1⟩ : BufTy).Contents (Elt F))
  :: StableHlo.nullary main_c_6 (constantI S_ 32 40000#32)
  :: StableHlo.unary main_c_6 main_v15 (broadcastInDim S2x256 ![] bcast_S_S2x256 : (⟨S_, .i32⟩ : BufTy).Contents (Elt F) → (⟨S2x256, .i32⟩ : BufTy).Contents (Elt F))
  :: StableHlo.binary main_v5_3 main_v15 main_v16 (addi : (⟨S2x256, .i32⟩ : BufTy).Contents (Elt F) → (⟨S2x256, .i32⟩ : BufTy).Contents (Elt F) → (⟨S2x256, .i32⟩ : BufTy).Contents (Elt F))
  :: StableHlo.ternary main_v14 main_v16 main_v5_3 main_v17 (select : (⟨S2x256, .i1⟩ : BufTy).Contents (Elt F) → (⟨S2x256, .i32⟩ : BufTy).Contents (Elt F) → (⟨S2x256, .i32⟩ : BufTy).Contents (Elt F) → (⟨S2x256, .i32⟩ : BufTy).Contents (Elt F))
  :: StableHlo.unary main_v12 main_v18 (broadcastInDim S2x256 ![0, 1] bcast_S2x1_S2x256_0_1 : (⟨S2x1, .i32⟩ : BufTy).Contents (Elt F) → (⟨S2x256, .i32⟩ : BufTy).Contents (Elt F))
  :: StableHlo.unary main_v18 main_v19 (broadcastInDim S2x256x1 ![0, 1] bcast_S2x256_S2x256x1_0_1 : (⟨S2x256, .i32⟩ : BufTy).Contents (Elt F) → (⟨S2x256x1, .i32⟩ : BufTy).Contents (Elt F))
  :: StableHlo.unary main_v17 main_v20 (broadcastInDim S2x256x1 ![0, 1] bcast_S2x256_S2x256x1_0_1 : (⟨S2x256, .i32⟩ : BufTy).Contents (Elt F) → (⟨S2x256x1, .i32⟩ : BufTy).Contents (Elt F))
  :: StableHlo.binary main_v19 main_v20 main_v21 ((fun a b => concatenate S2x256x2 2 [⟨S2x256x1, a⟩, ⟨S2x256x1, b⟩] concatenates_S2x256x1_S2x256x1_S2x256x2_d2) : (⟨S2x256x1, .i32⟩ : BufTy).Contents (Elt F) → (⟨S2x256x1, .i32⟩ : BufTy).Contents (Elt F) → (⟨S2x256x2, .i32⟩ : BufTy).Contents (Elt F))
  :: StableHlo.binary main_v1 main_v21 main_v22 ((fun x i => Host.gather gather_S2x40000x3_S2x256x2_S2x256x3_2_01_n_n_01_2_113 x i) : (⟨S2x40000x3, .f32⟩ : BufTy).Contents (Elt F) → (⟨S2x256x2, .i32⟩ : BufTy).Contents (Elt F) → (⟨S2x256x3, .f32⟩ : BufTy).Contents (Elt F))
  :: StableHlo.binary main_v22 main_v22 main_v23 (mulf : (⟨S2x256x3, .f32⟩ : BufTy).Contents (Elt F) → (⟨S2x256x3, .f32⟩ : BufTy).Contents (Elt F) → (⟨S2x256x3, .f32⟩ : BufTy).Contents (Elt F))
  :: StableHlo.nullary main_cst_7 (constant S_ .f32 0x00000000#32)
  :: StableHlo.binary main_v23 main_cst_7 main_v24 ((fun x v => Host.reduceAdd x v reducesTo_S2x256x3_S2x256_d2 h_S_) : (⟨S2x256x3, .f32⟩ : BufTy).Contents (Elt F) → (⟨S_, .f32⟩ : BufTy).Contents (Elt F) → (⟨S2x256, .f32⟩ : BufTy).Contents (Elt F))
  :: StableHlo.unary main_v24 main_v25 (broadcastInDim S2x256x1 ![0, 1] bcast_S2x256_S2x256x1_0_1 : (⟨S2x256, .f32⟩ : BufTy).Contents (Elt F) → (⟨S2x256x1, .f32⟩ : BufTy).Contents (Elt F))
  :: StableHlo.binary main_v22 main_v1 main_v26 ((fun l r => Host.dotGeneral dot_S2x256x3_S2x40000x3_S2x256x40000_2_2_1_1_0_0 none l r) : (⟨S2x256x3, .f32⟩ : BufTy).Contents (Elt F) → (⟨S2x40000x3, .f32⟩ : BufTy).Contents (Elt F) → (⟨S2x256x40000, .f32⟩ : BufTy).Contents (Elt F))
  :: StableHlo.nullary main_cst_8 (constant S_ .f32 0x40000000#32)
  :: StableHlo.unary main_cst_8 main_v27 (broadcastInDim S2x256x40000 ![] bcast_S_S2x256x40000 : (⟨S_, .f32⟩ : BufTy).Contents (Elt F) → (⟨S2x256x40000, .f32⟩ : BufTy).Contents (Elt F))
  :: StableHlo.binary main_v27 main_v26 main_v28 (mulf : (⟨S2x256x40000, .f32⟩ : BufTy).Contents (Elt F) → (⟨S2x256x40000, .f32⟩ : BufTy).Contents (Elt F) → (⟨S2x256x40000, .f32⟩ : BufTy).Contents (Elt F))
  :: StableHlo.unary main_v25 main_v29 (broadcastInDim S2x256x40000 ![0, 1, 2] bcast_S2x256x1_S2x256x40000_0_1_2 : (⟨S2x256x1, .f32⟩ : BufTy).Contents (Elt F) → (⟨S2x256x40000, .f32⟩ : BufTy).Contents (Elt F))
  :: StableHlo.binary main_v29 main_v28 main_v30 (subf : (⟨S2x256x40000, .f32⟩ : BufTy).Contents (Elt F) → (⟨S2x256x40000, .f32⟩ : BufTy).Contents (Elt F) → (⟨S2x256x40000, .f32⟩ : BufTy).Contents (Elt F))
  :: StableHlo.binary main_v1 main_v1 main_v31 (mulf : (⟨S2x40000x3, .f32⟩ : BufTy).Contents (Elt F) → (⟨S2x40000x3, .f32⟩ : BufTy).Contents (Elt F) → (⟨S2x40000x3, .f32⟩ : BufTy).Contents (Elt F))
  :: StableHlo.nullary main_cst_9 (constant S_ .f32 0x00000000#32)
  :: StableHlo.binary main_v31 main_cst_9 main_v32 ((fun x v => Host.reduceAdd x v reducesTo_S2x40000x3_S2x40000_d2 h_S_) : (⟨S2x40000x3, .f32⟩ : BufTy).Contents (Elt F) → (⟨S_, .f32⟩ : BufTy).Contents (Elt F) → (⟨S2x40000, .f32⟩ : BufTy).Contents (Elt F))
  :: StableHlo.unary main_v32 main_v33 (broadcastInDim S2x1x40000 ![0, 2] bcast_S2x40000_S2x1x40000_0_2 : (⟨S2x40000, .f32⟩ : BufTy).Contents (Elt F) → (⟨S2x1x40000, .f32⟩ : BufTy).Contents (Elt F))
  :: StableHlo.unary main_v33 main_v34 (broadcastInDim S2x256x40000 ![0, 1, 2] bcast_S2x1x40000_S2x256x40000_0_1_2 : (⟨S2x1x40000, .f32⟩ : BufTy).Contents (Elt F) → (⟨S2x256x40000, .f32⟩ : BufTy).Contents (Elt F))
  :: StableHlo.binary main_v30 main_v34 main_v35 (addf : (⟨S2x256x40000, .f32⟩ : BufTy).Contents (Elt F) → (⟨S2x256x40000, .f32⟩ : BufTy).Contents (Elt F) → (⟨S2x256x40000, .f32⟩ : BufTy).Contents (Elt F))
  :: StableHlo.unary main_v35 main_v36 (Host.negf : (⟨S2x256x40000, .f32⟩ : BufTy).Contents (Elt F) → (⟨S2x256x40000, .f32⟩ : BufTy).Contents (Elt F))
  :: StableHlo.unary main_v36 main_values ((fun x => (Host.topK S2x256x64 2 (FloatOps.cmpfTotal .gt) x sliceFits_S2x256x40000_S2x256x64).1) : (⟨S2x256x40000, .f32⟩ : BufTy).Contents (Elt F) → (⟨S2x256x64, .f32⟩ : BufTy).Contents (Elt F))
  :: StableHlo.unary main_v36 main_indices ((fun x => (Host.topK S2x256x64 2 (FloatOps.cmpfTotal .gt) x sliceFits_S2x256x40000_S2x256x64).2) : (⟨S2x256x40000, .f32⟩ : BufTy).Contents (Elt F) → (⟨S2x256x64, .i32⟩ : BufTy).Contents (Elt F))
  :: StableHlo.nullary main_v37 (iotaInDim S2 32 0)
  :: StableHlo.unary main_v37 main_v38 (broadcastInDim S2x1x1 ![0] bcast_S2_S2x1x1_0 : (⟨S2, .i32⟩ : BufTy).Contents (Elt F) → (⟨S2x1x1, .i32⟩ : BufTy).Contents (Elt F))
  :: StableHlo.nullary main_c_10 (constantI S_ 32 0#32)
  :: [] )

set_option maxHeartbeats 40000000 in
/-- Each touches the TensorCore's buffers only. -/
theorem postOps0_sub : (postOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.nullary_bufs_sub ..⟩

set_option maxHeartbeats 40000000 in
/-- After that: the neighbours gathered from the concatenation, the offsets, the mean, the ones. -/
abbrev postOps1 : List (HloOp τ sig (Elt F)) :=
  ( StableHlo.unary main_c_10 main_v39 (broadcastInDim S2x1x1 ![] bcast_S_S2x1x1 : (⟨S_, .i32⟩ : BufTy).Contents (Elt F) → (⟨S2x1x1, .i32⟩ : BufTy).Contents (Elt F))
  :: StableHlo.binary main_v38 main_v39 main_v40 (cmpi .slt : (⟨S2x1x1, .i32⟩ : BufTy).Contents (Elt F) → (⟨S2x1x1, .i32⟩ : BufTy).Contents (Elt F) → (⟨S2x1x1, .i1⟩ : BufTy).Contents (Elt F))
  :: StableHlo.nullary main_c_11 (constantI S_ 32 2#32)
  :: StableHlo.unary main_c_11 main_v41 (broadcastInDim S2x1x1 ![] bcast_S_S2x1x1 : (⟨S_, .i32⟩ : BufTy).Contents (Elt F) → (⟨S2x1x1, .i32⟩ : BufTy).Contents (Elt F))
  :: StableHlo.binary main_v38 main_v41 main_v42 (addi : (⟨S2x1x1, .i32⟩ : BufTy).Contents (Elt F) → (⟨S2x1x1, .i32⟩ : BufTy).Contents (Elt F) → (⟨S2x1x1, .i32⟩ : BufTy).Contents (Elt F))
  :: StableHlo.ternary main_v40 main_v42 main_v38 main_v43 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F))
  :: StableHlo.nullary main_c_12 (constantI S_ 32 0#32)
  :: StableHlo.unary main_c_12 main_v44 (broadcastInDim S2x256x64 ![] bcast_S_S2x256x64 : (⟨S_, .i32⟩ : BufTy).Contents (Elt F) → (⟨S2x256x64, .i32⟩ : BufTy).Contents (Elt F))
  :: StableHlo.binary main_indices main_v44 main_v45 (cmpi .slt : (⟨S2x256x64, .i32⟩ : BufTy).Contents (Elt F) → (⟨S2x256x64, .i32⟩ : BufTy).Contents (Elt F) → (⟨S2x256x64, .i1⟩ : BufTy).Contents (Elt F))
  :: StableHlo.nullary main_c_13 (constantI S_ 32 40000#32)
  :: StableHlo.unary main_c_13 main_v46 (broadcastInDim S2x256x64 ![] bcast_S_S2x256x64 : (⟨S_, .i32⟩ : BufTy).Contents (Elt F) → (⟨S2x256x64, .i32⟩ : BufTy).Contents (Elt F))
  :: StableHlo.binary main_indices main_v46 main_v47 (addi : (⟨S2x256x64, .i32⟩ : BufTy).Contents (Elt F) → (⟨S2x256x64, .i32⟩ : BufTy).Contents (Elt F) → (⟨S2x256x64, .i32⟩ : BufTy).Contents (Elt F))
  :: StableHlo.ternary main_v45 main_v47 main_indices main_v48 (select : (⟨S2x256x64, .i1⟩ : BufTy).Contents (Elt F) → (⟨S2x256x64, .i32⟩ : BufTy).Contents (Elt F) → (⟨S2x256x64, .i32⟩ : BufTy).Contents (Elt F) → (⟨S2x256x64, .i32⟩ : BufTy).Contents (Elt F))
  :: StableHlo.unary main_v43 main_v49 (broadcastInDim S2x256x64 ![0, 1, 2] bcast_S2x1x1_S2x256x64_0_1_2 : (⟨S2x1x1, .i32⟩ : BufTy).Contents (Elt F) → (⟨S2x256x64, .i32⟩ : BufTy).Contents (Elt F))
  :: StableHlo.unary main_v49 main_v50 (broadcastInDim S2x256x64x1 ![0, 1, 2] bcast_S2x256x64_S2x256x64x1_0_1_2 : (⟨S2x256x64, .i32⟩ : BufTy).Contents (Elt F) → (⟨S2x256x64x1, .i32⟩ : BufTy).Contents (Elt F))
  :: StableHlo.unary main_v48 main_v51 (broadcastInDim S2x256x64x1 ![0, 1, 2] bcast_S2x256x64_S2x256x64x1_0_1_2 : (⟨S2x256x64, .i32⟩ : BufTy).Contents (Elt F) → (⟨S2x256x64x1, .i32⟩ : BufTy).Contents (Elt F))
  :: StableHlo.binary main_v50 main_v51 main_v52 ((fun a b => concatenate S2x256x64x2 3 [⟨S2x256x64x1, a⟩, ⟨S2x256x64x1, b⟩] concatenates_S2x256x64x1_S2x256x64x1_S2x256x64x2_d3) : (⟨S2x256x64x1, .i32⟩ : BufTy).Contents (Elt F) → (⟨S2x256x64x1, .i32⟩ : BufTy).Contents (Elt F) → (⟨S2x256x64x2, .i32⟩ : BufTy).Contents (Elt F))
  :: StableHlo.binary main_v0 main_v52 main_v53 ((fun x i => Host.gather gather_S2x40000x771_S2x256x64x2_S2x256x64x771_3_01_n_n_01_3_11771 x i) : (⟨S2x40000x771, .f32⟩ : BufTy).Contents (Elt F) → (⟨S2x256x64x2, .i32⟩ : BufTy).Contents (Elt F) → (⟨S2x256x64x771, .f32⟩ : BufTy).Contents (Elt F))
  :: StableHlo.unary main_v53 main_v54 ((extractStridedSlice S2x256x64x3 ![0, 0, 0, 0] · slices_S2x256x64x771_S2x256x64x3_0_0_0_0) : (⟨S2x256x64x771, .f32⟩ : BufTy).Contents (Elt F) → (⟨S2x256x64x3, .f32⟩ : BufTy).Contents (Elt F))
  :: StableHlo.unary main_v22 main_v55 (broadcastInDim S2x256x1x3 ![0, 1, 3] bcast_S2x256x3_S2x256x1x3_0_1_3 : (⟨S2x256x3, .f32⟩ : BufTy).Contents (Elt F) → (⟨S2x256x1x3, .f32⟩ : BufTy).Contents (Elt F))
  :: StableHlo.unary main_v55 main_v56 (broadcastInDim S2x256x64x3 ![0, 1, 2, 3] bcast_S2x256x1x3_S2x256x64x3_0_1_2_3 : (⟨S2x256x1x3, .f32⟩ : BufTy).Contents (Elt F) → (⟨S2x256x64x3, .f32⟩ : BufTy).Contents (Elt F))
  :: StableHlo.binary main_v54 main_v56 main_v57 (subf : (⟨S2x256x64x3, .f32⟩ : BufTy).Contents (Elt F) → (⟨S2x256x64x3, .f32⟩ : BufTy).Contents (Elt F) → (⟨S2x256x64x3, .f32⟩ : BufTy).Contents (Elt F))
  :: StableHlo.unary main_v53 main_v58 ((extractStridedSlice S2x256x64x768 ![0, 0, 0, 3] · slices_S2x256x64x771_S2x256x64x768_0_0_0_3) : (⟨S2x256x64x771, .f32⟩ : BufTy).Contents (Elt F) → (⟨S2x256x64x768, .f32⟩ : BufTy).Contents (Elt F))
  :: StableHlo.binary main_v57 main_v58 main_v59 ((fun a b => concatenate S2x256x64x771 3 [⟨S2x256x64x3, a⟩, ⟨S2x256x64x768, b⟩] concatenates_S2x256x64x3_S2x256x64x768_S2x256x64x771_d3) : (⟨S2x256x64x3, .f32⟩ : BufTy).Contents (Elt F) → (⟨S2x256x64x768, .f32⟩ : BufTy).Contents (Elt F) → (⟨S2x256x64x771, .f32⟩ : BufTy).Contents (Elt F))
  :: StableHlo.unary main_v59 main_v60 ((extractStridedSlice S2x256x64x3 ![0, 0, 0, 0] · slices_S2x256x64x771_S2x256x64x3_0_0_0_0) : (⟨S2x256x64x771, .f32⟩ : BufTy).Contents (Elt F) → (⟨S2x256x64x3, .f32⟩ : BufTy).Contents (Elt F))
  :: StableHlo.unary main_v59 main_v61 ((extractStridedSlice S2x256x64x768 ![0, 0, 0, 3] · slices_S2x256x64x771_S2x256x64x768_0_0_0_3) : (⟨S2x256x64x771, .f32⟩ : BufTy).Contents (Elt F) → (⟨S2x256x64x768, .f32⟩ : BufTy).Contents (Elt F))
  :: StableHlo.nullary main_cst_14 (constant S_ .f32 0x00000000#32)
  :: StableHlo.binary main_v61 main_cst_14 main_v62 ((fun x v => Host.reduceAdd x v reducesTo_S2x256x64x768_S2x256x768_d2 h_S_) : (⟨S2x256x64x768, .f32⟩ : BufTy).Contents (Elt F) → (⟨S_, .f32⟩ : BufTy).Contents (Elt F) → (⟨S2x256x768, .f32⟩ : BufTy).Contents (Elt F))
  :: StableHlo.nullary main_cst_15 (constant S_ .f32 0x42800000#32)
  :: StableHlo.unary main_cst_15 main_v63 (broadcastInDim S2x256x768 ![] bcast_S_S2x256x768 : (⟨S_, .f32⟩ : BufTy).Contents (Elt F) → (⟨S2x256x768, .f32⟩ : BufTy).Contents (Elt F))
  :: StableHlo.binary main_v62 main_v63 main_v64 (Host.divf : (⟨S2x256x768, .f32⟩ : BufTy).Contents (Elt F) → (⟨S2x256x768, .f32⟩ : BufTy).Contents (Elt F) → (⟨S2x256x768, .f32⟩ : BufTy).Contents (Elt F))
  :: StableHlo.nullary main_cst_16 (constant S_ .f32 0x3F800000#32)
  :: StableHlo.unary main_cst_16 main_v65 (broadcastInDim S2x256 ![] bcast_S_S2x256 : (⟨S_, .f32⟩ : BufTy).Contents (Elt F) → (⟨S2x256, .f32⟩ : BufTy).Contents (Elt F))
  :: [] )

set_option maxHeartbeats 40000000 in
/-- Each touches the TensorCore's buffers only. -/
theorem postOps1_sub : (postOps1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub ..⟩

/-- The loop's body is its three stretches in order. -/
theorem body_chain : main_while0_body (F := F) = (Pipeline.chain
  [ StableHlo.seq bodyOps0, StableHlo.seq bodyOps1, StableHlo.seq bodyOps2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The program's first sixty statements are the stretch before the loop, the loop, and the first stretch after it. -/
theorem part0_chain (c : Dev nD) : main_part0 (F := F) c = (Pipeline.chainK
  [ StableHlo.seq preOps, HostLoop.enter 0 ] (StableHlo.seq postOps0) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- The rest is the second stretch after it. -/
theorem part1_chain (c : Dev nD) : main_part1 (F := F) c = (Pipeline.chain [ StableHlo.seq postOps1 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- The whole program, in order. -/
theorem main_chain (c : Dev nD) : main (F := F) c = (Pipeline.chain
  [ StableHlo.seq preOps, HostLoop.enter 0, StableHlo.seq postOps0, StableHlo.seq postOps1 ] : Prog (TpuEff nD τ sig (Elt F) (HostLoop.Sig (Pipeline.Sig Λ₀ (Fin 0) fun p => (pcfgs (F := F) p).Adm) 1) .tc) PUnit) := by
  show (main_part0 c >>= fun _ => main_part1 c) = _
  rewrite [part1_chain, part0_chain, Pipeline.chainK_bind_chain]
  chain_rfl

end Cert.Proof.ReferenceIdeal

end
-- ==== Proof.ReferenceRun.lean ====
/-
  The reference's run: its sampling loop's counter and condition, every buffer at its final contents, the arguments as
  they were, every semaphore (there is none) at zero.
-/
module

public import proofs.«01_k».proof.Proof.ReferenceOps
public import Idealize.ShloMosaic.Lib.Scf.ExitTest
public import Idealize.ShloMosaic.Lib.Quiescent
public import Idealize.ShloMosaic.Lib.Tactic

@[expose] public section

set_option maxRecDepth 16384

noncomputable section

namespace Cert.Proof.ReferenceIdeal

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs)
open Idealize.ShloMosaic.StableHlo (after afterL atTrip held launchContents)

variable {F : FTy → Type} [FloatOps F]

/-- The condition's two operations: the bound 256, and the comparison of the counter with it. -/
abbrev condOps : List (HloOp τ sig (Elt F)) :=
  [ StableHlo.nullary main_while0c_c_22 (constantI S_ 32 256#32),
    StableHlo.binary main_v5_1 main_while0c_c_22 main_while0c_v66 (cmpi .slt : (⟨S_, .i32⟩ : BufTy).Contents (Elt F) → (⟨S_, .i32⟩ : BufTy).Contents (Elt F) → (⟨S_, .i1⟩ : BufTy).Contents (Elt F)) ]

/-- The stretches before the loop, -/
abbrev preI : List (List (HloOp τ sig (Elt F))) := [preOps]
/-- of its body, -/
abbrev bodyI : List (List (HloOp τ sig (Elt F))) := [bodyOps0, bodyOps1, bodyOps2]
/-- and after it. -/
abbrev postI : List (List (HloOp τ sig (Elt F))) := [postOps0, postOps1]

/-- They touch the TensorCore's buffers only and allocate none. -/
theorem preI_plain : StableHlo.Plain (preI (F := F)) := .cons preOps_sub .nil
theorem bodyI_plain : StableHlo.Plain (bodyI (F := F)) := .cons bodyOps0_sub (.cons bodyOps1_sub (.cons bodyOps2_sub .nil))
theorem postI_plain : StableHlo.Plain (postI (F := F)) := .cons postOps0_sub (.cons postOps1_sub .nil)

/-! ## The counter -/

/-- Only the body's third stretch writes the counter. -/
theorem ctr_unwritten : ∀ ops ∈ [(condOps (F := F)), bodyOps0, bodyOps1], ∀ op ∈ ops, (Proc.devRef .tc main_v5_1 : DevRef τ sig) ∉ op.writes := by
  intro ops ho op hop
  fin_cases ho <;> fin_cases hop <;> exact fun h => StableHlo.devRef_ne_of_ne (by decide) (Finset.mem_singleton.mp h)

/-- The third stretch adds one to it. -/
theorem ctr_step (X : Valuation τ sig (Elt F)) : after bodyOps2 X main_v5_1
    = (addi (X main_v5_1) (fun _ => (1#32 : BitVec 32)) : (⟨S_, .i32⟩ : BufTy).Contents (Elt F)) := by
  rw [bodyOps2]
  simp only [StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.unary_result, StableHlo.binary_result, StableHlo.nullary_result_ne _ _ _ _ (by decide), StableHlo.nullary_result]
  rfl

/-- Before trip `k` the counter holds `k`, if it held zero at the loop's entry. -/
theorem ctr_trip (W : Dev nD → Valuation τ sig (Elt F)) (h0 : ∀ c, W c main_v5_1 = fun _ => (0#32 : BitVec 32)) (c : Dev nD) :
    ∀ k, atTrip condOps bodyI W k c main_v5_1 = fun _ => Scf.iv 0#32 1#32 k
  | 0 => by
    rw [StableHlo.atTrip_zero, h0 c, Scf.iv_zero]
  | k + 1 => by
    rw [StableHlo.atTrip_succ]
    simp only [StableHlo.afterL_cons, StableHlo.afterL_nil]
    rw [ctr_step, StableHlo.after_of_forall_not_mem _ _ (ctr_unwritten _ (by simp)), StableHlo.after_of_forall_not_mem _ _ (ctr_unwritten _ (by simp)),
      StableHlo.after_of_forall_not_mem _ _ (ctr_unwritten _ (by simp)), ctr_trip W h0 c k, Scf.iv_succ]
    rfl

/-- At the loop's entry the counter is zero. -/
theorem ctr_entry (X : Valuation τ sig (Elt F)) : afterL preI X main_v5_1 = fun _ => (0#32 : BitVec 32) := by
  simp only [StableHlo.afterL_cons, StableHlo.afterL_nil]
  rw [preOps]
  simp only [StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.unary_result, StableHlo.unary_result_ne _ _ _ _ _ _ (by decide), StableHlo.nullary_result]
  rfl

-- a rule stated for any thread is applied at the TensorCore's
set_option backward.isDefEq.respectTransparency.types false in
/-- Run before trip `k`, the condition answers 1 exactly when `k` is less than 256, and writes its own two buffers and
    nothing else. -/
theorem cond_spec (W : Dev nD → Valuation τ sig (Elt F)) (h0 : ∀ c, W c main_v5_1 = fun _ => (0#32 : BitVec 32)) :
    StableHlo.CondSpec (pcfgs (F := F)) defs₀ loops (main_while0_cond (F := F)) condOps bodyI W 256 := by
  intro k hk c bd
  have hctr := ctr_trip W h0 c k
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W k c) main_v5_1 HostLoop.idx0)
        (HloOp.result _ (atTrip condOps bodyI W k c) main_while0c_c_22 HostLoop.idx0) = 1#1) (k < 256)
    rw [StableHlo.nullary_result_ne _ _ _ _ (by decide), StableHlo.nullary_result, hctr]
    exact Scf.cmpi_slt_iv_ub_iff (lb := 0#32) (ub := 256#32) (st := 1#32) (by decide) (k := k) hk
  isplitl [Hb]; · iexact Hb
  rw [StableHlo.after_cons, StableHlo.after_cons, StableHlo.after_nil]; iexact Hh

/-! ## The run -/

variable (m : (ℓ : Loc nD τ sig) → Buf (Elt F) ℓ)

/-- Every buffer at the loop's entry, -/
abbrev entryAt (c : Dev nD) : Valuation τ sig (Elt F) := StableHlo.entryContents preI m c
/-- at its exit, 256 trips and one failing condition later, -/
abbrev loopExit (c : Dev nD) : Valuation τ sig (Elt F) := after condOps (atTrip condOps bodyI (entryAt m) 256 c)
/-- and at the end. -/
abbrev finalAt (c : Dev nD) : Valuation τ sig (Elt F) := after postOps1 (after postOps0 (loopExit m c))

/-- THE RUN: from any memory with zero counters every weakly fair execution terminates with every buffer at its final
    contents and every counter zero. -/
theorem run (g : Dev nD → PrngReg) :
    θ_run defs (onTc (τ := τ) (main (F := F))) ⟨m, fun _ => 0, g⟩
      (fun r => (∀ (c : Dev nD) (b : Ref sig .tc), (Proc.devRef .tc b : DevRef τ sig).isScoped = false →
        r.2.mem ((c.tc : Thread nD τ).loc b) = finalAt m c b) ∧ r.2.sem = fun _ => 0) := by
  have h := StableHlo.run_loop (pcfgs (F := F)) defs₀ loops main 0 main_while0_cond main_while0_body rfl preI bodyI postI condOps
    preI_plain bodyI_plain postI_plain (fun c => by rw [main_chain c]; rfl) body_chain 256 m g (cond_spec _ fun _ => ctr_entry _)
  exact (θ_run defs _ _).mono (fun r hr => ⟨hr, sem_eq_zero_of_no_sems (by decide) r.2⟩) h

/-- No operation writes an argument. -/
theorem args_unwritten (b : Ref sig .tc) (hb : b = main_arg0 ∨ b = main_arg1 ∨ b = main_arg2) :
    ∀ ops ∈ (preOps (F := F)) :: postOps0 :: postOps1 :: condOps :: bodyI, ∀ op ∈ ops, (Proc.devRef .tc b : DevRef τ sig) ∉ op.writes := by
  intro ops ho op hop h
  rcases hb with rfl | rfl | rfl <;> revert h <;>
  · fin_cases ho <;> fin_cases hop <;> exact fun h => StableHlo.devRef_ne_of_ne (by decide) (Finset.mem_singleton.mp h)

/-- A buffer that no operation of the loop writes is the same after any number of trips. -/
theorem trip_keeps (b : DevRef τ sig) (h : ∀ ops ∈ (condOps (F := F)) :: bodyI, ∀ op ∈ ops, b ∉ op.writes)
    (W : Dev nD → Valuation τ sig (Elt F)) (c : Dev nD) : ∀ k, atTrip condOps bodyI W k c b = W c b
  | 0 => rfl
  | k + 1 => by
    rw [StableHlo.atTrip_succ]
    simp only [StableHlo.afterL_cons, StableHlo.afterL_nil]
    rw [StableHlo.after_of_forall_not_mem _ _ (h _ (by simp)), StableHlo.after_of_forall_not_mem _ _ (h _ (by simp)),
      StableHlo.after_of_forall_not_mem _ _ (h _ (by simp)), StableHlo.after_of_forall_not_mem _ _ (h _ (by simp)),
      trip_keeps b h W c k]

/-- An argument ends as it started. -/
theorem final_keeps (b : Ref sig .tc) (hb : b = main_arg0 ∨ b = main_arg1 ∨ b = main_arg2) (c : Dev nD) :
    finalAt m c b = m ((c : Thread nD τ).loc b) := by
  have h := args_unwritten (F := F) b hb
  rw [finalAt, StableHlo.after_of_forall_not_mem _ _ (h _ (by simp)), StableHlo.after_of_forall_not_mem _ _ (h _ (by simp)),
    loopExit, StableHlo.after_of_forall_not_mem _ _ (h _ (by simp)),
    trip_keeps b (fun ops ho => h ops (by simp only [List.mem_cons] at ho ⊢; tauto)), entryAt, StableHlo.entryContents,
    StableHlo.afterL_cons, StableHlo.afterL_nil, StableHlo.after_of_forall_not_mem _ _ (h _ (by simp))]

/-- The run as the frame claim words it: it terminates, the arguments are as they were, and every counter is zero. -/
theorem frame_run (g : Dev nD → PrngReg) :
    θ_run defs (onTc (τ := τ) (main (F := F))) ⟨m, fun _ => 0, g⟩
      (fun r => (∀ c : Dev nD,
          r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun r hr => ⟨fun c => ⟨(hr.1 c main_arg0 rfl).trans (final_keeps m _ (.inl rfl) c),
    (hr.1 c main_arg1 rfl).trans (final_keeps m _ (.inr (.inl rfl)) c),
    (hr.1 c main_arg2 rfl).trans (final_keeps m _ (.inr (.inr rfl)) c)⟩, hr.2⟩) (run m g)

end Cert.Proof.ReferenceIdeal

end
-- ==== Proof.Neighbours.lean ====
/-
  Reading rows of a table of points: what the gather of the neighbours' rows reads at an index, and that taking columns
  of the rows gathered from two tables side by side is gathering from one of the tables.
-/
module

public import Idealize.ShloMosaic.Lib.Pipeline.Value
public import Idealize.ShloMosaic.Lib.ValueIdx

@[expose] public section

noncomputable section

namespace Cert.Proof.Neighbours

open Idealize.ShloMosaic Idealize.ShloMosaic.ValueIdx

/-- The dimension numbers of gathering a whole row of `C` columns at each (batch, row) pair of a 2×256×64 table. -/
abbrev nbrDims (C : Nat)
    (wf : GatherDims.WF ⟨3, ![2, 40000, C]⟩ ⟨4, ![2, 256, 64, 2]⟩ ⟨4, ![2, 256, 64, C]⟩ [3] [0, 1] [] [0, 1] [] 3 ![1, 1, C]) :
    GatherDims ⟨3, ![2, 40000, C]⟩ ⟨4, ![2, 256, 64, 2]⟩ ⟨4, ![2, 256, 64, C]⟩ where
  offsetDims := [3]
  collapsedSliceDims := [0, 1]
  operandBatchingDims := []
  startIndicesBatchingDims := []
  startIndexMap := [0, 1]
  indexVectorDim := 3
  sliceSizes := ![1, 1, C]
  wf := wf

/-- The batch a start index names, clamped into the two there are. -/
def batchOf (idx : IVec ⟨4, ![2, 256, 64, 2]⟩ 32) (p : Fin 2) (q : Fin 256) (r : Fin 64) : Fin 2 :=
  ⟨min (idx (ix4 p q r 0)).toInt.toNat (2 - 1), by omega⟩

/-- The row a start index names, clamped into the 40000 there are. -/
def rowOf (idx : IVec ⟨4, ![2, 256, 64, 2]⟩ 32) (p : Fin 2) (q : Fin 256) (r : Fin 64) : Fin 40000 :=
  ⟨min (idx (ix4 p q r 1)).toInt.toNat (40000 - 1), by omega⟩

/-- The gather at an index: the column asked for, of the row the start index names. -/
theorem gather_nbr_apply {α : Type} (C : Nat) (wf) (x : (⟨3, ![2, 40000, C]⟩ : Shape).Idx → α)
    (idx : IVec ⟨4, ![2, 256, 64, 2]⟩ 32) (p : Fin 2) (q : Fin 256) (r : Fin 64) (c : Fin C) :
    Host.gather (nbrDims C wf) x idx (ix4 p q r c) = x (ix3 (batchOf idx p q r) (rowOf idx p q r) c) := by
  unfold Host.gather
  congr 1
  have hs : ∀ k : Fin 2, (nbrDims C wf).siIdx (ix4 p q r c) k = ix4 p q r k := fun k => by
    funext b; refine Fin.ext ?_
    match b with
    | ⟨0, _⟩ => rfl
    | ⟨1, _⟩ => rfl
    | ⟨2, _⟩ => rfl
    | ⟨3, _⟩ => rfl
  funext a
  refine Fin.ext ?_
  show (nbrDims C wf).start (ix4 p q r c) idx a + (nbrDims C wf).batchCoord (ix4 p q r c) a
      + (nbrDims C wf).offCoord (ix4 p q r c) a = _
  rw [GatherDims.batchCoord_eq_zero _ _ _ List.not_mem_nil]
  match a with
  | ⟨0, _⟩ =>
    show min (idx ((nbrDims C wf).siIdx (ix4 p q r c) (0 : Fin 2))).toInt.toNat (2 - 1) + 0 + 0 = _
    rw [hs]
    rfl
  | ⟨1, _⟩ =>
    show min (idx ((nbrDims C wf).siIdx (ix4 p q r c) (1 : Fin 2))).toInt.toNat (40000 - 1) + 0 + 0 = _
    rw [hs]
    rfl
  | ⟨2, _⟩ =>
    show 0 + 0 + c.val = c.val
    omega

/-- The first three columns of the gathered wide rows are the rows gathered from the first table. -/
theorem slice_gather_left {α : Type} (wf wf') (a : (⟨3, ![2, 40000, 3]⟩ : Shape).Idx → α) (b : (⟨3, ![2, 40000, 768]⟩ : Shape).Idx → α)
    (idx : IVec ⟨4, ![2, 256, 64, 2]⟩ 32) (hc : Shape.Concatenates [⟨3, ![2, 40000, 3]⟩, ⟨3, ![2, 40000, 768]⟩] ⟨3, ![2, 40000, 771]⟩ 2)
    (hs : Shape.Slices ⟨4, ![2, 256, 64, 771]⟩ ![0, 0, 0, 0] ⟨4, ![2, 256, 64, 3]⟩) :
    extractStridedSlice ⟨4, ![2, 256, 64, 3]⟩ ![0, 0, 0, 0]
        (Host.gather (nbrDims 771 wf) (concatenate ⟨3, ![2, 40000, 771]⟩ 2 [⟨_, a⟩, ⟨_, b⟩] hc) idx) hs
      = Host.gather (nbrDims 3 wf') a idx := by
  funext j
  obtain ⟨p, q, r, c, rfl⟩ : ∃ (p : Fin 2) (q : Fin 256) (r : Fin 64) (c : Fin 3), j = ix4 p q r c := ⟨j 0, j 1, j 2, j 3, eq_ix4 j⟩
  refine (extractStridedSlice_apply _ _ hs _ (ix4 p q r ⟨c.val, by omega⟩) fun k => ?_).trans ?_
  · fin_cases k <;> simp
  · rw [gather_nbr_apply, gather_nbr_apply]
    exact concatenate_pair_apply_left _ _ _ hc _ rfl (ix3 (batchOf idx p q r) (rowOf idx p q r) c) fun k => by fin_cases k <;> rfl

/-- The columns from the third of the gathered wide rows are the rows gathered from the second table. -/
theorem slice_gather_right {α : Type} (wf wf') (a : (⟨3, ![2, 40000, 3]⟩ : Shape).Idx → α) (b : (⟨3, ![2, 40000, 768]⟩ : Shape).Idx → α)
    (idx : IVec ⟨4, ![2, 256, 64, 2]⟩ 32) (hc : Shape.Concatenates [⟨3, ![2, 40000, 3]⟩, ⟨3, ![2, 40000, 768]⟩] ⟨3, ![2, 40000, 771]⟩ 2)
    (hs : Shape.Slices ⟨4, ![2, 256, 64, 771]⟩ ![0, 0, 0, 3] ⟨4, ![2, 256, 64, 768]⟩) :
    extractStridedSlice ⟨4, ![2, 256, 64, 768]⟩ ![0, 0, 0, 3]
        (Host.gather (nbrDims 771 wf) (concatenate ⟨3, ![2, 40000, 771]⟩ 2 [⟨_, a⟩, ⟨_, b⟩] hc) idx) hs
      = Host.gather (nbrDims 768 wf') b idx := by
  funext j
  obtain ⟨p, q, r, c, rfl⟩ : ∃ (p : Fin 2) (q : Fin 256) (r : Fin 64) (c : Fin 768), j = ix4 p q r c := ⟨j 0, j 1, j 2, j 3, eq_ix4 j⟩
  refine (extractStridedSlice_apply _ _ hs _ (ix4 p q r ⟨3 + c.val, by omega⟩) fun k => ?_).trans ?_
  · fin_cases k <;> simp
  · rw [gather_nbr_apply, gather_nbr_apply]
    refine concatenate_pair_apply_right _ _ _ hc _ rfl rfl (ix3 (batchOf idx p q r) (rowOf idx p q r) c) (fun k hk => ?_) ?_
    · fin_cases k <;> first | rfl | exact absurd rfl hk
    · exact Nat.add_comm c.val 3

/-- The first `m` columns of two tables side by side, the first of `m` columns, are the first table. -/
theorem slice_left {α : Type} (A B m n k : Nat) (a : (⟨3, ![A, B, m]⟩ : Shape).Idx → α) (b : (⟨3, ![A, B, n]⟩ : Shape).Idx → α)
    (hc : Shape.Concatenates [⟨3, ![A, B, m]⟩, ⟨3, ![A, B, n]⟩] ⟨3, ![A, B, k]⟩ 2)
    (hs : Shape.Slices ⟨3, ![A, B, k]⟩ ![0, 0, 0] ⟨3, ![A, B, m]⟩) (hmk : m ≤ k) :
    extractStridedSlice ⟨3, ![A, B, m]⟩ ![0, 0, 0] (concatenate ⟨3, ![A, B, k]⟩ 2 [⟨_, a⟩, ⟨_, b⟩] hc) hs = a := by
  funext j
  obtain ⟨p, q, c, rfl⟩ : ∃ (p : Fin A) (q : Fin B) (c : Fin m), j = ix3 p q c := ⟨j 0, j 1, j 2, eq_ix3 j⟩
  refine (extractStridedSlice_apply _ _ hs _ (ix3 p q ⟨c.val, by omega⟩) fun k => ?_).trans ?_
  · fin_cases k <;> simp
  · exact concatenate_pair_apply_left _ _ _ hc _ rfl (ix3 p q c) fun k => by fin_cases k <;> rfl

/-- The same on the last of four axes. -/
theorem slice_left4 {α : Type} (A B C m n k : Nat) (a : (⟨4, ![A, B, C, m]⟩ : Shape).Idx → α) (b : (⟨4, ![A, B, C, n]⟩ : Shape).Idx → α)
    (hc : Shape.Concatenates [⟨4, ![A, B, C, m]⟩, ⟨4, ![A, B, C, n]⟩] ⟨4, ![A, B, C, k]⟩ 3)
    (hs : Shape.Slices ⟨4, ![A, B, C, k]⟩ ![0, 0, 0, 0] ⟨4, ![A, B, C, m]⟩) (hmk : m ≤ k) :
    extractStridedSlice ⟨4, ![A, B, C, m]⟩ ![0, 0, 0, 0] (concatenate ⟨4, ![A, B, C, k]⟩ 3 [⟨_, a⟩, ⟨_, b⟩] hc) hs = a := by
  funext j
  obtain ⟨p, q, r, c, rfl⟩ : ∃ (p : Fin A) (q : Fin B) (r : Fin C) (c : Fin m), j = ix4 p q r c := ⟨j 0, j 1, j 2, j 3, eq_ix4 j⟩
  refine (extractStridedSlice_apply _ _ hs _ (ix4 p q r ⟨c.val, by omega⟩) fun k => ?_).trans ?_
  · fin_cases k <;> simp
  · exact concatenate_pair_apply_left _ _ _ hc _ rfl (ix4 p q r c) fun k => by fin_cases k <;> rfl

/-- The columns of two tables side by side from the first's width on are the second table. -/
theorem slice_right4 {α : Type} (A B C m n k : Nat) (a : (⟨4, ![A, B, C, m]⟩ : Shape).Idx → α) (b : (⟨4, ![A, B, C, n]⟩ : Shape).Idx → α)
    (hc : Shape.Concatenates [⟨4, ![A, B, C, m]⟩, ⟨4, ![A, B, C, n]⟩] ⟨4, ![A, B, C, k]⟩ 3)
    (hs : Shape.Slices ⟨4, ![A, B, C, k]⟩ ![0, 0, 0, m] ⟨4, ![A, B, C, n]⟩) (hmk : m + n ≤ k) :
    extractStridedSlice ⟨4, ![A, B, C, n]⟩ ![0, 0, 0, m] (concatenate ⟨4, ![A, B, C, k]⟩ 3 [⟨_, a⟩, ⟨_, b⟩] hc) hs = b := by
  funext j
  obtain ⟨p, q, r, c, rfl⟩ : ∃ (p : Fin A) (q : Fin B) (r : Fin C) (c : Fin n), j = ix4 p q r c := ⟨j 0, j 1, j 2, j 3, eq_ix4 j⟩
  refine (extractStridedSlice_apply _ _ hs _ (ix4 p q r ⟨m + c.val, by omega⟩) fun k => ?_).trans ?_
  · fin_cases k <;> simp
  · refine concatenate_pair_apply_right _ _ _ hc _ rfl rfl (ix4 p q r c) (fun k hk => ?_) ?_
    · fin_cases k <;> first | rfl | exact absurd rfl hk
    · exact Nat.add_comm c.val m

end Cert.Proof.Neighbours

end
-- ==== Proof.CompareLoop.lean ====
/-
  Farthest point sampling, side by side: the kernel's program and the reference's carry equal values before every trip
  of their sampling loops, so both leave the loop with the same sampled indices.
-/
module

public import proofs.«01_k».proof.Proof.KernelIdealLoop
public import proofs.«01_k».proof.Proof.ReferenceRun
public import proofs.«01_k».proof.Proof.Neighbours
public import Idealize.ShloMosaic.Lib.StableHlo.RunRead

@[expose] public section

set_option maxRecDepth 16384

noncomputable section

namespace Cert.Proof.Compare

open Idealize.ShloMosaic Idealize.ShloMosaic.TcCoe Idealize.ShloMosaic.Tactic
open Idealize.ShloMosaic.StableHlo (after afterL atTrip launchContents)

variable {F : FTy → Type} [FloatOps F]

/-- The contents of the kernel program's buffers. -/
abbrev KV (F : FTy → Type) := Valuation Cert.KernelIdeal.τ Cert.KernelIdeal.sig (Elt F)
/-- The contents of the reference program's buffers. -/
abbrev RV (F : FTy → Type) := Valuation Cert.ReferenceIdeal.τ Cert.ReferenceIdeal.sig (Elt F)

/-- Two arrays one after the other along axis `d`, with the arrays as plain arguments. -/
def cat2 {α : Type} (t : Shape) (d : Fin t.rank) (s₁ s₂ : Shape) (h : Shape.Concatenates [s₁, s₂] t d)
    (a : s₁.Idx → α) (b : s₂.Idx → α) : t.Idx → α :=
  concatenate t d [⟨s₁, a⟩, ⟨s₂, b⟩] h

/-- The concatenation of a list of two arrays is `cat2` of them. -/
theorem cat2_eq {α : Type} (t : Shape) (d : Fin t.rank) (s₁ s₂ : Shape) (a : s₁.Idx → α) (b : s₂.Idx → α)
    (h : Shape.Concatenates [s₁, s₂] t d) : concatenate t d [⟨s₁, a⟩, ⟨s₂, b⟩] h = cat2 t d s₁ s₂ h a b := rfl

/-- The two programs' carried values are the same: the points, the counter, the position, the indices chosen so far,
    each point's distance to the chosen ones, and the index to choose next. -/
structure Agree (X : KV F) (Y : RV F) : Prop where
  pts : X Cert.KernelIdeal.main_v3_0 = Y Cert.ReferenceIdeal.main_v5_0
  ctr : X Cert.KernelIdeal.main_v3_1 = Y Cert.ReferenceIdeal.main_v5_1
  pos : X Cert.KernelIdeal.main_v3_2 = Y Cert.ReferenceIdeal.main_v5_2
  chosen : X Cert.KernelIdeal.main_v3_3 = Y Cert.ReferenceIdeal.main_v5_3
  dist : X Cert.KernelIdeal.main_v3_4 = Y Cert.ReferenceIdeal.main_v5_4
  next : X Cert.KernelIdeal.main_v3_5 = Y Cert.ReferenceIdeal.main_v5_5

/-- The loop's condition changes no carried value. -/
theorem agree_cond {X : KV F} {Y : RV F} (h : Agree X Y) :
    Agree (after Cert.Proof.KernelIdeal.condOps X) (after Cert.Proof.ReferenceIdeal.condOps Y) := by
  constructor <;> after_reads_simp [h.pts, h.ctr, h.pos, h.chosen, h.dist, h.next]

/-- The arg-max of the same distances is the same index. -/
theorem argmax_agree {X : KV F} {Y : RV F}
    (h : X Cert.KernelIdeal.main_while0b_v101 = Y Cert.ReferenceIdeal.main_while0b_v93) :
    after Cert.KernelIdeal.Gen.while0Ops0_1 X Cert.KernelIdeal.main_while0b_v102
      = after Cert.Proof.ReferenceIdeal.bodyOps1 Y Cert.ReferenceIdeal.main_while0b_v94 := by
  after_reads_simp [h]
  rfl

/-- The first stretch of the body leaves the same distances. -/
theorem dist_agree {X : KV F} {Y : RV F} (h : Agree X Y) :
    after Cert.KernelIdeal.Gen.while0Ops0 X Cert.KernelIdeal.main_while0b_v101
      = after Cert.Proof.ReferenceIdeal.bodyOps0 Y Cert.ReferenceIdeal.main_while0b_v93 := by
  after_reads_simp [cat2_eq, h.pts, h.dist, h.next]
  rfl

/-- The first stretch of the body leaves the same table of chosen indices. -/
theorem chosen_agree {X : KV F} {Y : RV F} (h : Agree X Y) :
    after Cert.KernelIdeal.Gen.while0Ops0 X Cert.KernelIdeal.main_while0b_v80
      = after Cert.Proof.ReferenceIdeal.bodyOps0 Y Cert.ReferenceIdeal.main_while0b_v72 := by
  after_reads_simp [h.pos, h.chosen, h.next]
  rfl

/-- The first stretch of the body leaves the same next position. -/
theorem pos_agree {X : KV F} {Y : RV F} (h : Agree X Y) :
    after Cert.KernelIdeal.Gen.while0Ops0 X Cert.KernelIdeal.main_while0b_v74
      = after Cert.Proof.ReferenceIdeal.bodyOps0 Y Cert.ReferenceIdeal.main_while0b_v66 := by
  after_reads_simp [h.pos]

/-- The body's last stretch copies the new values back: equal new values are equal carried values. -/
theorem agree_back {X : KV F} {Y : RV F} (hpts : X Cert.KernelIdeal.main_v3_0 = Y Cert.ReferenceIdeal.main_v5_0)
    (hctr : X Cert.KernelIdeal.main_v3_1 = Y Cert.ReferenceIdeal.main_v5_1)
    (hpos : X Cert.KernelIdeal.main_while0b_v74 = Y Cert.ReferenceIdeal.main_while0b_v66)
    (hchosen : X Cert.KernelIdeal.main_while0b_v80 = Y Cert.ReferenceIdeal.main_while0b_v72)
    (hdist : X Cert.KernelIdeal.main_while0b_v101 = Y Cert.ReferenceIdeal.main_while0b_v93)
    (hnext : X Cert.KernelIdeal.main_while0b_v102 = Y Cert.ReferenceIdeal.main_while0b_v94) :
    Agree (after Cert.KernelIdeal.Gen.while0Ops0_2 X) (after Cert.Proof.ReferenceIdeal.bodyOps2 Y) := by
  constructor <;> after_reads_simp [hpts, hctr, hpos, hchosen, hdist, hnext, id]

/-- The arg-max and the copies back, after the body's first stretch. -/
theorem agree_rest {X : KV F} {Y : RV F} (hpts : X Cert.KernelIdeal.main_v3_0 = Y Cert.ReferenceIdeal.main_v5_0)
    (hctr : X Cert.KernelIdeal.main_v3_1 = Y Cert.ReferenceIdeal.main_v5_1)
    (hpos : X Cert.KernelIdeal.main_while0b_v74 = Y Cert.ReferenceIdeal.main_while0b_v66)
    (hchosen : X Cert.KernelIdeal.main_while0b_v80 = Y Cert.ReferenceIdeal.main_while0b_v72)
    (hdist : X Cert.KernelIdeal.main_while0b_v101 = Y Cert.ReferenceIdeal.main_while0b_v93) :
    Agree (after Cert.KernelIdeal.Gen.while0Ops0_2 (after Cert.KernelIdeal.Gen.while0Ops0_1 X))
      (after Cert.Proof.ReferenceIdeal.bodyOps2 (after Cert.Proof.ReferenceIdeal.bodyOps1 Y)) := by
  refine agree_back ?_ ?_ ?_ ?_ ?_ (argmax_agree hdist) <;> after_reads_simp [hpts, hctr, hpos, hchosen, hdist]

/-- One trip of the body keeps the carried values the same. -/
theorem agree_body {X : KV F} {Y : RV F} (h : Agree X Y) :
    Agree (afterL Cert.Proof.KernelIdeal.bodyI X) (afterL Cert.Proof.ReferenceIdeal.bodyI Y) := by
  simp only [StableHlo.afterL_cons, StableHlo.afterL_nil]
  refine agree_rest ?_ ?_ (pos_agree h) (chosen_agree h) (dist_agree h) <;> after_reads_simp [h.pts, h.ctr]

/-- Entering their loops in agreement, the two programs agree before every trip. -/
theorem agree_trip (W : Dev Cert.KernelIdeal.nD → KV F) (W' : Dev Cert.ReferenceIdeal.nD → RV F) (c : Dev Cert.KernelIdeal.nD)
    (h : Agree (W c) (W' c)) :
    ∀ k, Agree (atTrip Cert.Proof.KernelIdeal.condOps Cert.Proof.KernelIdeal.bodyI W k c)
      (atTrip Cert.Proof.ReferenceIdeal.condOps Cert.Proof.ReferenceIdeal.bodyI W' k c)
  | 0 => by
    rw [StableHlo.atTrip_zero, StableHlo.atTrip_zero]
    exact h
  | k + 1 => by
    rw [StableHlo.atTrip_succ, StableHlo.atTrip_succ]
    exact agree_body (agree_cond (agree_trip W W' c h k))

/-- The reference takes the points back out of its concatenation of points and features. -/
theorem ref_points (Y : RV F) : after Cert.Proof.ReferenceIdeal.preOps Y Cert.ReferenceIdeal.main_v1
    = Y Cert.ReferenceIdeal.main_arg0 := by
  after_reads_simp [cat2_eq]
  exact Neighbours.slice_left 2 40000 3 768 771 _ _ _ _ (by omega)

/-- The reference's concatenation of the points and the features. -/
theorem ref_table (Y : RV F) : after Cert.Proof.ReferenceIdeal.preOps Y Cert.ReferenceIdeal.main_v0
    = cat2 Cert.ReferenceIdeal.S2x40000x771 2 Cert.ReferenceIdeal.S2x40000x3 Cert.ReferenceIdeal.S2x40000x768
        Cert.ReferenceIdeal.Gen.concatenates_S2x40000x3_S2x40000x768_S2x40000x771_d2
        (Y Cert.ReferenceIdeal.main_arg0) (Y Cert.ReferenceIdeal.main_arg1) := by
  after_reads_simp [cat2_eq]

/-- The two programs enter their loops in agreement, if their points are the same. -/
theorem agree_entry {X : KV F} {Y : RV F} (h : X Cert.KernelIdeal.main_arg0 = Y Cert.ReferenceIdeal.main_arg0) :
    Agree (after Cert.KernelIdeal.Gen.hostOps0 X) (after Cert.Proof.ReferenceIdeal.preOps Y) := by
  constructor
  · after_reads_simp [h, id, cat2_eq]
    exact (Neighbours.slice_left 2 40000 3 768 771 _ _ _ _ (by omega)).symm
  all_goals after_reads_simp [id]

end Cert.Proof.Compare

end
-- ==== Proof.ComparePost.lean ====
/-
  After the sampling loops: the two programs gather the same centers, find the same nearest neighbours, and form the
  same table of neighbour indices; what the kernel's program hands to its mean, and what its offsets are, as
  expressions in the centers and the neighbours; and the same for the reference.
-/
module

public import proofs.«01_k».proof.Proof.CompareLoop

@[expose] public section

set_option maxRecDepth 16384

noncomputable section

namespace Cert.Proof.Compare

open Idealize.ShloMosaic Idealize.ShloMosaic.TcCoe Idealize.ShloMosaic.Tactic
open Idealize.ShloMosaic.StableHlo (after afterL atTrip launchContents)

variable {F : FTy → Type} [FloatOps F]

section Formulas
open Cert.KernelIdeal Cert.KernelIdeal.Gen

/-- The batch numbers 0 and 1, as a 2×1×1 array. -/
abbrev batchNo : IVec S2x1x1 32 := broadcastInDim S2x1x1 ![0] bcast_S2_S2x1x1_0 (iotaInDim S2 32 0)

/-- The table of (batch, row) pairs made from a table of row numbers: negative numbers count from the end. -/
def nbrIdx (ind : IVec S2x256x64 32) : IVec S2x256x64x2 32 :=
  cat2 S2x256x64x2 3 S2x256x64x1 S2x256x64x1 concatenates_S2x256x64x1_S2x256x64x1_S2x256x64x2_d3
    (broadcastInDim S2x256x64x1 ![0, 1, 2] bcast_S2x256x64_S2x256x64x1_0_1_2
      (broadcastInDim S2x256x64 ![0, 1, 2] bcast_S2x1x1_S2x256x64_0_1_2
        (select (cmpi .slt batchNo (broadcastInDim S2x1x1 ![] bcast_S_S2x1x1 (constantI S_ 32 0#32)))
          (addi batchNo (broadcastInDim S2x1x1 ![] bcast_S_S2x1x1 (constantI S_ 32 2#32))) batchNo)))
    (broadcastInDim S2x256x64x1 ![0, 1, 2] bcast_S2x256x64_S2x256x64x1_0_1_2
      (select (cmpi .slt ind (broadcastInDim S2x256x64 ![] bcast_S_S2x256x64 (constantI S_ 32 0#32)))
        (addi ind (broadcastInDim S2x256x64 ![] bcast_S_S2x256x64 (constantI S_ 32 40000#32))) ind))

/-- The neighbours' offsets from their center. -/
def offsets (pts : FVec F S2x40000x3 .f32) (centers : FVec F S2x256x3 .f32) (ind : IVec S2x256x64 32) :
    FVec F S2x256x64x3 .f32 :=
  subf (Host.gather gather_S2x40000x3_S2x256x64x2_S2x256x64x3_3_01_n_n_01_3_113 pts (nbrIdx ind))
    (broadcastInDim S2x256x64x3 ![0, 1, 2, 3] bcast_S2x256x1x3_S2x256x64x3_0_1_2_3
      (broadcastInDim S2x256x1x3 ![0, 1, 3] bcast_S2x256x3_S2x256x1x3_0_1_3 centers))

/-- The neighbours' features. -/
def nbrFeatures (feats : FVec F S2x40000x768 .f32) (ind : IVec S2x256x64 32) : FVec F S2x256x64x768 .f32 :=
  Host.gather gather_S2x40000x768_S2x256x64x2_S2x256x64x768_3_01_n_n_01_3_11768 feats (nbrIdx ind)

end Formulas

/-- The two programs gather the same centers. -/
theorem centers_agree {X : KV F} {Y : RV F} (h : X Cert.KernelIdeal.main_v3_3 = Y Cert.ReferenceIdeal.main_v5_3)
    (hp : X Cert.KernelIdeal.main_arg0 = Y Cert.ReferenceIdeal.main_v1) :
    after Cert.KernelIdeal.Gen.hostOps0_1 X Cert.KernelIdeal.main_v20
      = after Cert.Proof.ReferenceIdeal.postOps0 Y Cert.ReferenceIdeal.main_v22 := by
  after_reads_simp [cat2_eq, h, hp]
  rfl

/-- The two programs find the same nearest neighbours. -/
theorem indices_agree {X : KV F} {Y : RV F} (h : X Cert.KernelIdeal.main_v3_3 = Y Cert.ReferenceIdeal.main_v5_3)
    (hp : X Cert.KernelIdeal.main_arg0 = Y Cert.ReferenceIdeal.main_v1) :
    after Cert.KernelIdeal.Gen.hostOps0_1 X Cert.KernelIdeal.main_indices
      = after Cert.Proof.ReferenceIdeal.postOps0 Y Cert.ReferenceIdeal.main_indices := by
  after_reads_simp [cat2_eq, h, hp]
  rfl

/-- The kernel's offsets, in its centers and its neighbours. -/
theorem kernel_offsets (X : KV F) : after Cert.KernelIdeal.Gen.hostOps0_1 X Cert.KernelIdeal.main_v54
    = offsets (X Cert.KernelIdeal.main_arg0) (after Cert.KernelIdeal.Gen.hostOps0_1 X Cert.KernelIdeal.main_v20)
        (after Cert.KernelIdeal.Gen.hostOps0_1 X Cert.KernelIdeal.main_indices) := by
  rw [offsets, nbrIdx]
  after_reads_simp [cat2_eq]

/-- What the kernel's program hands to its mean: the neighbours' features, as 512 groups of 64 rows. -/
theorem kernel_features (X : KV F) : after Cert.KernelIdeal.Gen.hostOps0_1 X Cert.KernelIdeal.main_v70
    = shapeCast Cert.KernelIdeal.S512x64x768 (nbrFeatures (X Cert.KernelIdeal.main_arg1)
        (after Cert.KernelIdeal.Gen.hostOps0_1 X Cert.KernelIdeal.main_indices))
        Cert.KernelIdeal.Gen.shapeCasts_S2x256x64x768_S512x64x768 := by
  rw [nbrFeatures, nbrIdx]
  after_reads_simp [cat2_eq]
  rfl

/-- What the reference's first stretch after the loop leaves for its second: the batch numbers and a zero. -/
theorem ref_batchNo (Y : RV F) :
    after Cert.Proof.ReferenceIdeal.postOps0 Y Cert.ReferenceIdeal.main_v38 = batchNo
      ∧ after Cert.Proof.ReferenceIdeal.postOps0 Y Cert.ReferenceIdeal.main_c_10 = (constantI Cert.KernelIdeal.S_ 32 0#32) := by
  constructor
  · after_reads_simp
  · after_reads_simp

/-- The points beside the features, one row of 771 columns for each point. -/
abbrev table (p : FVec F Cert.KernelIdeal.S2x40000x3 .f32) (f : FVec F Cert.KernelIdeal.S2x40000x768 .f32) :
    FVec F Cert.ReferenceIdeal.S2x40000x771 .f32 :=
  cat2 Cert.ReferenceIdeal.S2x40000x771 2 Cert.ReferenceIdeal.S2x40000x3 Cert.ReferenceIdeal.S2x40000x768
    Cert.ReferenceIdeal.Gen.concatenates_S2x40000x3_S2x40000x768_S2x40000x771_d2 p f

/-- The reference's offsets, in its centers and its neighbours, its table being the points beside the features. -/
theorem ref_offsets (Z : RV F) (p : FVec F Cert.KernelIdeal.S2x40000x3 .f32) (f : FVec F Cert.KernelIdeal.S2x40000x768 .f32)
    (h : Z Cert.ReferenceIdeal.main_v0 = table p f) (hb : Z Cert.ReferenceIdeal.main_v38 = batchNo)
    (hz : Z Cert.ReferenceIdeal.main_c_10 = (constantI Cert.KernelIdeal.S_ 32 0#32)) :
    after Cert.Proof.ReferenceIdeal.postOps1 Z Cert.ReferenceIdeal.main_v60
      = offsets p (Z Cert.ReferenceIdeal.main_v22) (Z Cert.ReferenceIdeal.main_indices) := by
  rw [offsets]
  after_reads_simp [cat2_eq, h, hb, hz]
  refine (Neighbours.slice_left4 2 256 64 3 768 771 _ _ _ _ (by omega)).trans ?_
  refine congrArg (subf · _) ?_
  exact Neighbours.slice_gather_left _ _ p f (nbrIdx (Z Cert.ReferenceIdeal.main_indices)) _ _

/-- The reference's mean over the 64 neighbours of each center, in the neighbours' features. -/
theorem ref_mean (Z : RV F) (p : FVec F Cert.KernelIdeal.S2x40000x3 .f32) (f : FVec F Cert.KernelIdeal.S2x40000x768 .f32)
    (h : Z Cert.ReferenceIdeal.main_v0 = table p f) (hb : Z Cert.ReferenceIdeal.main_v38 = batchNo)
    (hz : Z Cert.ReferenceIdeal.main_c_10 = (constantI Cert.KernelIdeal.S_ 32 0#32)) :
    after Cert.Proof.ReferenceIdeal.postOps1 Z Cert.ReferenceIdeal.main_v64
      = Host.divf (Host.reduceAdd (nbrFeatures f (Z Cert.ReferenceIdeal.main_indices)) (constant Cert.ReferenceIdeal.S_ .f32 0x00000000#32)
          Cert.ReferenceIdeal.Gen.reducesTo_S2x256x64x768_S2x256x768_d2 Cert.ReferenceIdeal.Gen.h_S_)
        (broadcastInDim Cert.ReferenceIdeal.S2x256x768 ![] Cert.ReferenceIdeal.Gen.bcast_S_S2x256x768 (constant Cert.ReferenceIdeal.S_ .f32 0x42800000#32)) := by
  after_reads_simp [cat2_eq, h, hb, hz]
  refine congrArg (fun x => Host.divf (Host.reduceAdd x _ _ _) _) ?_
  refine (Neighbours.slice_right4 2 256 64 3 768 771 _ _ _ _ (by omega)).trans ?_
  exact Neighbours.slice_gather_right _ _ p f (nbrIdx (Z Cert.ReferenceIdeal.main_indices)) _ _

/-- The two programs' second results are the same: ones. -/
theorem ones_agree (X : KV F) (Z : RV F) : after Cert.KernelIdeal.Gen.hostOps1 X Cert.KernelIdeal.main_v73
    = after Cert.Proof.ReferenceIdeal.postOps1 Z Cert.ReferenceIdeal.main_v65 := by
  after_reads_simp

/-- What the reference's first stretch after the loop leaves alone: its table. -/
theorem ref_table_kept (Y : RV F) : after Cert.Proof.ReferenceIdeal.postOps0 Y Cert.ReferenceIdeal.main_v0 = Y Cert.ReferenceIdeal.main_v0 := by
  after_reads_simp

/-- What the reference's second stretch leaves alone: the centers. -/
theorem ref_centers (Z : RV F) : after Cert.Proof.ReferenceIdeal.postOps1 Z Cert.ReferenceIdeal.main_v22 = Z Cert.ReferenceIdeal.main_v22 := by
  after_reads_simp

/-- What the kernel's last operations leave: the centers and the offsets as they were, and the mean's groups by batch. -/
theorem kernel_last (X : KV F) : after Cert.KernelIdeal.Gen.hostOps1 X Cert.KernelIdeal.main_v20 = X Cert.KernelIdeal.main_v20
    ∧ after Cert.KernelIdeal.Gen.hostOps1 X Cert.KernelIdeal.main_v54 = X Cert.KernelIdeal.main_v54
    ∧ after Cert.KernelIdeal.Gen.hostOps1 X Cert.KernelIdeal.main_v72
      = shapeCast Cert.KernelIdeal.S2x256x768 (X Cert.KernelIdeal.main_v71 : FVec F Cert.KernelIdeal.S512x768 .f32) Cert.KernelIdeal.Gen.shapeCasts_S512x768_S2x256x768 := by
  refine ⟨?_, ?_, ?_⟩ <;> after_reads_simp
  rfl

end Cert.Proof.Compare

end
-- ==== Proof.KernelIdealRegion.lean ====
/-
  The one kernel region of @main: 64 grid points, each taking the mean over the 64 neighbours of 8 centers' features.
  The body's triple, the pipeline's proof data from any contents of the unscoped buffers, and the region as a segment
  that leaves them changed at the result's array only.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Pipeline.ValueKit
public import Idealize.ShloMosaic.Lib.Tactic

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the proof: the pipeline library's, once, for the region's one entry. -/
abbrev UU : Type := IProdConst (Fin 1) (UR sig nD τ) × Counters

local notation "𝕄" => MT nD τ sig Unit (Elt F) ℕ UU ℕ

/-! ## The body -/

/-- Run on two whole staging buffers, the first holding `x`, the body leaves the first as it was and the second at the
    mean of `x` along its middle axis. -/
theorem body_run (c : Dev nD) (E : Set ℕ) (i : grid0.Coords) (M0 : Memref sig .tc .vmem S8x64x768 .f32) (h0 : M0.IsWhole)
    (M1 : Memref sig .tc .vmem S8x768 .f32) (h1 : M1.IsWhole) (x : S8x64x768.Idx → Elt F .f32) (K : PUnit → sProp 𝕄) :
    iprop(owns (c : Thread nD τ) M0 fullShare x ∗ (∃ d, owns (c : Thread nD τ) M1 fullShare d)
        ∗ (iprop(owns (c : Thread nD τ) M0 fullShare x ∗ owns (c : Thread nD τ) M1 fullShare (k0_pay1 (F := F) x)) -∗ K ⟨⟩))
      ⊢ wp frame (wpE (defs₀ (F := F)) Variants.none c none) E (cc0__mean_body i M0 h0 M1 h1) K := by
  rw [cc0__mean_body_eq_skeleton]
  unfold cc0__mean_body_skel owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ fun y => ⟨_, List.mem_singleton.mpr rfl, ?_⟩).trans ?_
  · refine (Rect.mem_set_unit (inb := inb_S8x768_S8x768_0_0)).mpr fun a => ?_
    have hy := (y a).isLt
    fin_cases a <;> exact ⟨Nat.zero_le _, by simpa using hy⟩
  rw [View.canon_cons_unit_lit _ _ _ (by decide), View.readAt_eq_ld, View.ld_unit_lit _ _ (by decide)]

/-! ## The proof data, at given contents of the unscoped buffers -/

variable (W : Dev nD → Valuation τ sig (Elt F))

/-- The neighbours' features of point `t`: 8 centers' rows of the region's operand. -/
abbrev blk (c : Dev nD) (t : Fin cfg0.N) : (cfg0.win 0).block.Idx → Elt F (cfg0.win 0).elt :=
  ((cfg0.win 0).blk t).view.read (Elt F) (W c main_v70)

/-- The proof data of the region entered at contents `W`: the two arrays at `W`; after the body at point `t` the
    operand's staging buffer at its block and the result's at that block's mean; nothing owed; full shares. -/
def dat (c : Dev nD) : Dat τ (Elt F) Unit ℕ UU ℕ cfg0 c where
  A w := W c (Pipeline.arrRef spec0 w)
  after w t := match w with
    | ⟨0, _⟩ => blk W c t
    | ⟨1, _⟩ => k0_pay1 (F := F) (blk W c t)
  Φ _ := Pipeline.scopedRest (Ix := Unit) (Name := ℕ) (U := UU) (Lvl := ℕ) (Val := Elt F) spec0 c
  q _ := fullShare
  owed _ := 0

theorem dat_A (c : Dev nD) (w : Fin cfg0.W) : (dat W c).A w = W c (Pipeline.arrRef spec0 w) := by dsimp only [dat]
theorem dat_after0 (c : Dev nD) (t : Fin cfg0.N) : (dat W c).after 0 t = blk W c t := by dsimp only [dat]
theorem dat_after1 (c : Dev nD) (t : Fin cfg0.N) : (dat W c).after 1 t = k0_pay1 (F := F) (blk W c t) := by dsimp only [dat]

/-- When the body runs at point `t`, the operand's staging buffer holds the block of point `t`. -/
theorem before0 (c : Dev nD) (t : Fin cfg0.N) (d) : (dat W c).before 0 t d = blk W c t :=
  ((dat W c).before_in_eq_fetched 0 rfl (fun _ => rfl) (fun _ _ _ => rfl) (fun t => by rw [dat_after0]; unfold Dat.blockOf; rw [dat_A]) t d).trans
    (by unfold Dat.fetched Dat.blockOf; rw [dat_A]; rfl)

/-- The body table's entry at point `t` is the kernel's body there. -/
theorem row_eq (t : Fin cfg0.N) : defs₀ (F := F) .tc cfg0.body (cfg0.bodyArgs t (cfg0.slots t)) = bodyAt0 t := by
  unfold defs₀; rw [Defs.onTc_tc]

/-- What the body is called with at point `t`, the two windows one by one; -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t))

/-- The body at any point, from what it is called with to what it returns. -/
theorem body_at (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0]
  rw [show (dat W c).Φ t.succ = (dat W c).Φ t.castSucc from rfl,
    show (dat W c).owesAt () t.succ = (dat W c).owesAt () t.castSucc from rfl, dat_after0, dat_after1]
  iintro ⟨HΦ, Ho, ⟨%d0, H0⟩, ⟨%d1, H1⟩⟩
  iapply (body_run c Set.univ (grid0.coords t) _ _ _ _ (blk W c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on its body, at every point. -/
theorem body_obligation (c : Dev nD) : BodyObligation (dat W c) (defs₀ (F := F)) Variants.none () Set.univ := fun t => by
  rw [bigSep_W0, bigSep_W0, row_eq]
  exact triple_restated (body_at W c t) rfl .rfl fun _ => .rfl

/-! ## The region -/

/-- No table is prefetched. -/
abbrev adm : (p : Fin 1) → (pcfgs (F := F) p).Adm := fun p => (cfgs p).toPCfg_adm
/-- The one pipeline's proof data, as a family. -/
abbrev pdats : (p : Fin 1) → (c : Dev nD) → Dat τ (Elt F) Unit ℕ UU ℕ (Pipeline.pin (pcfgs (F := F)) adm p) c
  | ⟨0, _⟩ => fun c => dat W c
/-- No core owes another anything, so no semaphore has a level. -/
abbrev L : GSem nD τ sig → Finset Unit := fun _ => ∅
abbrev lv : GSem nD τ sig → Unit → ℕ := fun _ _ => 0

/-- The result's array after the region: every block written back. -/
def outArr (c : Dev nD) : Buf (Elt F) ((c : Thread nD τ).loc main_v71) := (dat W c).arrAt 1 cfg0.N

/-- Every unscoped buffer after the region: the result's array at `outArr`, any other as it was. -/
def Wx (c : Dev nD) : Valuation τ sig (Elt F) := Function.update (W c) (Proc.devRef .tc main_v71) (outArr W c)

theorem Wx_out (c : Dev nD) : Wx W c main_v71 = outArr W c := Function.update_self ..
theorem Wx_ne (c : Dev nD) (b : Ref sig .tc) (h : b ≠ main_v71) : Wx W c b = W c b :=
  Function.update_of_ne (StableHlo.devRef_ne_of_ne h) ..

/-- What rides along beside the buffers: the record that the core owes nothing. -/
abbrev Rw (c : Dev nD) : sProp 𝕄 := iprop(∃ X, owes (c : Thread nD τ) (0 : CellTallies nD τ sig Unit) X)

-- lemmas stated over any configuration are applied at the printed one
set_option backward.isDefEq.respectTransparency.types false in
/-- THE REGION over every unscoped buffer: entered at `W`, left at `Wx W`. -/
def reg : Pipeline.RegionSeg (pcfgs (F := F)) adm (pdats W) () defs₀ Variants.none L lv 0 where
  win := launch0.win.to₀
  block_pos := launch0.block_pos
  stage_whole := launch0.stage_whole
  K := PEmpty
  osem k := k.elim
  ho := Pipeline.OwnSemFacts.none _
  hbody c := (body_obligation W c).loose
  hwaits := Pipeline.hwaits_of_owed_zero _ _ _ _ L lv 0 fun _ _ => rfl
  pre c := iprop(StableHlo.held (c : Thread nD τ) (Pipeline.ucRefs τ sig) (W c) ∗ Rw c)
  post c := iprop(StableHlo.held (c : Thread nD τ) (Pipeline.ucRefs τ sig) (Wx W c) ∗ Rw c)
  X _ := BI.emp
  Y _ := BI.emp
  Z c := Pipeline.unscopedRest (Ix := Unit) (Name := ℕ) (U := UU) (Lvl := ℕ) spec0 c (fun b => W c b)
  hentry c := by
    rw [Pipeline.ownSems0_none, ← Pipeline.unscopedBufs_held]
    have hsplit := Pipeline.arrays_of_unscopedBufs (p := 0) (pcfgs (F := F)) adm (pdats W) launch0.win launch0.arr_whole c
      ((pdats W 0 c).share_full fun _ => rfl) (fun b => W c b) fun w => dat_A W c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats W 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    rw [← Pipeline.unscopedBufs_held]
    have hjoin := Pipeline.unscopedBufs_of_arrays (p := 0) (pcfgs (F := F)) adm (Ix := Unit) (Name := ℕ) (U := UU) (Lvl := ℕ) launch0.win launch0.arr_whole c
      (pdats W) ((pdats W 0 c).share_full fun _ => rfl) (fun b => W c b) (fun b => Wx W c b) ((pdats W 0 c).arrAt · cfg0.N)
      (fun w => by
        fin_cases w
        · exact ((pdats W 0 c).arrAt_in 0 rfl _).trans (Wx_ne W c main_v70 (by decide)).symm
        · exact (Wx_out W c).symm)
      (fun b hb => Wx_ne W c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

end Cert.Proof.KernelIdeal

end
-- ==== Proof.MeanValue.lean ====
/-
  The value of the mean: the region leaves in its result array, for each of the 512 groups, the sum of the group's 64
  rows divided by 64; and read by batch, that is the reference's mean over the third axis.
-/
module

public import proofs.«01_k».proof.Proof.KernelIdealRegion
public import proofs.«01_k».proof.Proof.Gen.ReferenceIdeal
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL.Sem
open Idealize.ShloMosaic.Pipeline (Dat)

/-- For each group and column, the sum of the group's 64 rows divided by 64. -/
def rowMean (x : FVec Ideal S512x64x768 .f32) : FVec Ideal S512x768 .f32 := fun i =>
  Ideal.div (∑ k : Fin 64, x (ix3 (i 0) k (i 1))) (Ideal.ofBits .f32 0x42800000#32)

/-- The two windows' index maps: step `t` takes the `t`-th block of eight groups of each. -/
theorem idx : ∀ t : Fin cfg0.N, win0_0.index t = ![t.val, 0, 0] ∧ win0_1.index t = ![t.val, 0] :=
  (by decide +kernel : ∀ t : Fin grid0.N, _)

variable (W : Dev nD → Valuation τ sig (Elt Ideal))

/-- What the body stores at an index of step `t`'s block is the group mean at the array index that block index sits at. -/
theorem point (c : Dev nD) (t : Fin cfg0.N) (y) : k0_pay1 (blk W c t) y
    = rowMean (W c main_v70) (((cfg0.win 1).blk t).view.emb y) := by
  pointwise [k0_pay1, rowMean]
  blk_point [blk, idx t]

/-- The result array after the region: the group means. -/
theorem outArr_eq (c : Dev nD) : outArr W c = rowMean (W c main_v70) := by
  refine (dat W c).arrAt_eq_of_covers 1 _ (by decide +kernel) fun t hf y => ?_
  blk_simp
  rw [dat_after1]
  exact point W c t y

/-- The group means of the neighbours' rows, read by batch, are the reference's mean over the neighbours. -/
theorem mean_eq (N : FVec Ideal S2x256x64x768 .f32) :
    (shapeCast S2x256x768 (rowMean (shapeCast S512x64x768 N shapeCasts_S2x256x64x768_S512x64x768)) shapeCasts_S512x768_S2x256x768)
      = Host.divf (Host.reduceAdd N (constant Cert.ReferenceIdeal.S_ .f32 0x00000000#32)
          Cert.ReferenceIdeal.Gen.reducesTo_S2x256x64x768_S2x256x768_d2 Cert.ReferenceIdeal.Gen.h_S_)
        (broadcastInDim Cert.ReferenceIdeal.S2x256x768 ![] Cert.ReferenceIdeal.Gen.bcast_S_S2x256x768 (constant Cert.ReferenceIdeal.S_ .f32 0x42800000#32)) := by
  funext j
  idx_vars j
  pointwise [rowMean]

end Cert.Proof.KernelIdeal

end
-- ==== Proof.KernelIdealRun.lean ====
/-
  The whole run of @main: operations, the sampling loop, operations, the kernel region, operations. Every buffer of the
  program at its final contents, as a fold over the operations, the trips and the region; every semaphore at zero; the
  arguments as they were.
-/
module

public import proofs.«01_k».proof.Proof.KernelIdealLoop
public import proofs.«01_k».proof.Proof.KernelIdealRegion
public import Idealize.ShloMosaic.Lib.Quiescent

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs CSeg Ticket devRef_mem_ucRefs)
open Idealize.ShloMosaic.StableHlo (after afterL atTrip held launchContents segsOf segsOf_chains segsOf_M_T loopSeg)

variable {F : FTy → Type} [FloatOps F]

local notation "𝕄" => MT nD τ sig Unit (Elt F) ℕ UU ℕ

/-! ## The contents at each boundary -/

section Contents

variable (m : (ℓ : Loc nD τ sig) → Buf (Elt F) ℓ)

/-- At the loop's entry, -/
abbrev entryAt (c : Dev nD) : Valuation τ sig (Elt F) := after hostOps0 (launchContents m c)
/-- at its exit, 256 trips and one failing condition later, -/
abbrev loopExit (c : Dev nD) : Valuation τ sig (Elt F) := after condOps (atTrip condOps bodyI (entryAt m) 256 c)
/-- at the region's entry, -/
abbrev regionEntry (c : Dev nD) : Valuation τ sig (Elt F) := after hostOps0_1 (loopExit m c)
/-- at its exit, -/
abbrev regionExit (c : Dev nD) : Valuation τ sig (Elt F) := Wx (regionEntry m) c
/-- and at the end. -/
abbrev finalAt (c : Dev nD) : Valuation τ sig (Elt F) := after hostOps1 (regionExit m c)

/-- A buffer no operation writes, other than the region's result, ends as it started. -/
theorem final_keeps (b : Ref sig .tc) (hb : b ≠ main_v71)
    (h : ∀ ops ∈ (hostOps0 (F := F)) :: hostOps0_1 :: hostOps1 :: condOps :: bodyI, ∀ op ∈ ops, (Proc.devRef .tc b : DevRef τ sig) ∉ op.writes) (c : Dev nD) :
    finalAt m c b = m ((c : Thread nD τ).loc b) := by
  rw [finalAt, StableHlo.after_of_forall_not_mem _ _ (h _ (by simp)), regionExit, Wx_ne _ c b hb, regionEntry,
    StableHlo.after_of_forall_not_mem _ _ (h _ (by simp)), loopExit, StableHlo.after_of_forall_not_mem _ _ (h _ (by simp)),
    trip_keeps b (fun ops ho => h ops (by simp only [List.mem_cons] at ho ⊢; tauto)), entryAt,
    StableHlo.after_of_forall_not_mem _ _ (h _ (by simp))]

end Contents

/-- No operation of a list writes `b`: what `final_keeps` asks of each of the lists, at an argument. -/
theorem args_unwritten (b : Ref sig .tc) (hb : b = main_arg0 ∨ b = main_arg1 ∨ b = main_arg2) :
    ∀ ops ∈ (hostOps0 (F := F)) :: hostOps0_1 :: hostOps1 :: condOps :: bodyI, ∀ op ∈ ops, (Proc.devRef .tc b : DevRef τ sig) ∉ op.writes := by
  intro ops ho op hop h
  rcases hb with rfl | rfl | rfl <;> revert h <;>
  · fin_cases ho <;> fin_cases hop <;> exact fun h => StableHlo.devRef_ne_of_ne (by decide) (Finset.mem_singleton.mp h)

/-! ## The segments -/

section Segments

variable (m : (ℓ : Loc nD τ sig) → Buf (Elt F) ℓ)

/-- The region's one ticket. -/
def tk (_ : Fin 1) : Ticket (Ix := Unit) (Name := ℕ) (U := UU) (Lvl := ℕ) (nD := nD) (τ := τ) (pcfgs (F := F)) adm :=
  { p := 0, pdats := pdats (regionEntry m), EP := embAt 0 }

/-- The three stretches outside the loop touch the TensorCore's buffers only and allocate none. -/
theorem pre_plain : StableHlo.Plain [hostOps0 (F := F)] := .cons hostOps0_sub .nil
theorem mid_plain : StableHlo.Plain [hostOps0_1 (F := F)] := .cons hostOps0_1_sub .nil
theorem post_plain : StableHlo.Plain [hostOps1 (F := F)] := .cons hostOps1_sub .nil

/-- The one loop's table entry: its condition and its body, once round. -/
theorem loops_step : loops (F := F) 0 = HostLoop.step 0 main_while0_cond main_while0_body := rfl

/-- @main's segments. -/
def segs : List (CSeg (pcfgs (F := F)) adm defs₀ Variants.none L lv loops (tk m)) :=
  segsOf _ _ _ _ _ _ _ _ Rw [hostOps0] pre_plain (launchContents m)
    ++ loopSeg _ _ _ _ _ _ _ _ 0 main_while0_cond main_while0_body loops_step condOps bodyI bodyI_plain while0_body_chain 256 (entryAt m) Rw
        (cond_spec Variants.none Rw (entryAt m) fun _ => ctr_entry _)
      :: (segsOf _ _ _ _ _ _ _ _ Rw [hostOps0_1] mid_plain (loopExit m)
        ++ CSeg.region _ _ () cellOf_inj _ _ _ _ _ _ (0 : Fin 1) (reg (regionEntry m))
          :: segsOf _ _ _ _ _ _ _ _ Rw [hostOps1] post_plain (regionExit m))

/-- They chain, from the launch's contents to the final ones. -/
theorem segs_chain :
    CSeg.Chains (fun c => iprop(held (c : Thread nD τ) (ucRefs τ sig) (launchContents m c) ∗ Rw c)) (segs m)
      (fun c => iprop(iprop(held (c : Thread nD τ) (ucRefs τ sig) (finalAt m c)) ∗ ∃ X, owes (c : Thread nD τ) (0 : CellTallies nD τ sig Unit) X)) := by
  unfold segs
  exact CSeg.Chains.append (segsOf_chains _ _ _ _ _ _ _ _ Rw _ pre_plain _)
    ⟨fun _ => .rfl, CSeg.Chains.append (segsOf_chains _ _ _ _ _ _ _ _ Rw _ mid_plain _)
      ⟨fun _ => .rfl, segsOf_chains _ _ _ _ _ _ _ _ Rw _ post_plain _⟩⟩

set_option backward.isDefEq.respectTransparency.types false in
/-- Their fragments, in order, are @main. -/
theorem segs_main (c : Dev nD) : CSeg.runL (segs m) = main (F := F) c := by
  rw [main_chain c]
  rfl

/-- The region's ticket is consumed once. -/
theorem segs_disjoint : (segs m).Pairwise fun s s' => Disjoint s.T s'.T := by
  unfold segs segsOf segsOf
  simp only [List.cons_append, List.nil_append, List.pairwise_cons, List.mem_cons, List.not_mem_nil, or_false, forall_eq_or_imp, forall_eq,
    Finset.disjoint_empty_left, CSeg.ofOps, List.Pairwise.nil, Finset.disjoint_empty_right, implies_true, true_and, and_true,
    IsEmpty.forall_iff]
  rw [StableHlo.loopSeg_T]
  exact Finset.disjoint_empty_left _

/-- The launch's element of the resource algebra. -/
def u₀ : UU := (fun _ => initOf (Pipeline.cells cfgs cellOf_inj) (Pipeline.launchToks cfgs cellOf_inj), 1)

/-- It hands the region its staging cells' and its transfers' tokens. -/
theorem launch_own : (ownU u₀ : sProp 𝕄)
    ⊢ bigSep Finset.univ fun j : Fin 1 => BI.own ((embAt j : Emb (UR sig nD τ) 𝕄) (initOf (Pipeline.cells cfgs cellOf_inj) (Pipeline.launchToks cfgs cellOf_inj))) := by
  unfold u₀
  iintro Hu
  ihave H := (ownU_pair _ _) $$ Hu
  icases H with ⟨HP, -⟩
  iapply own_iprod (fun _ : Fin 1 => initOf (Pipeline.cells cfgs cellOf_inj) (Pipeline.launchToks cfgs cellOf_inj))
  iexact HP

-- a rule stated for any program is applied at the printed one
set_option backward.isDefEq.respectTransparency.types false in
/-- THE RUN: from any memory with zero counters every weakly fair execution of @main terminates with every unscoped
    buffer at its final contents and every counter zero. -/
theorem run (g : Dev nD → PrngReg) :
    θ_run defs (onTc (τ := τ) (main (F := F))) ⟨m, fun _ => 0, g⟩
      (fun r => (∀ (c : Dev nD) (b : Ref sig .tc), (Proc.devRef .tc b : DevRef τ sig).isScoped = false →
        r.2.mem ((c.tc : Thread nD τ).loc b) = finalAt m c b) ∧ r.2.sem = fun _ => 0) :=
  Pipeline.θ_run_regions_loop_kit_sems (pcfgs (F := F)) adm cellOf_inj defs₀ Variants.none L lv loops (tk m) m g main (segs m)
    (fun c Q => by rw [segs_main m c]) (segs_disjoint m)
    (O₀ := 0) (hL := fun _ _ => rfl) (G := fun _ => iprop(emp)) (u₀ := u₀)
    (hu₀ := by
      iintro Hu
      ihave HP := (launch_own (F := F)) $$ Hu
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ Rw c))
    (Tₙ := fun c => iprop(held (c : Thread nD τ) (ucRefs τ sig) (finalAt m c)))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalAt m c b)
    (hfin := fun c s' => by
      unfold held
      iintro ⟨Hh, HSI⟩
      ihave Hr := (pointsTo_read_all (ucRefs τ sig) (fun b => ((c : Dev nD), b)) (fun b => finalAt m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs hb), sem_eq_zero_of_scoped (by decide) hz⟩)

/-- The run as the frame claim words it: it terminates, the arguments are as they were, and every counter is zero. -/
theorem frame_run (g : Dev nD → PrngReg) :
    θ_run defs (onTc (τ := τ) (main (F := F))) ⟨m, fun _ => 0, g⟩
      (fun r => (∀ c : Dev nD,
          r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  refine (θ_run defs _ _).mono (fun r hr => ⟨fun c => ⟨?_, ?_, ?_⟩, hr.2⟩) (run m g)
  · exact (hr.1 c main_arg0 rfl).trans (final_keeps m main_arg0 (by decide) (args_unwritten _ (.inl rfl)) c)
  · exact (hr.1 c main_arg1 rfl).trans (final_keeps m main_arg1 (by decide) (args_unwritten _ (.inr (.inl rfl))) c)
  · exact (hr.1 c main_arg2 rfl).trans (final_keeps m main_arg2 (by decide) (args_unwritten _ (.inr (.inr rfl))) c)

end Segments

end Cert.Proof.KernelIdeal

end
-- ==== Proof.CompareFinal.lean ====
/-
  The whole comparison, over the extended reals: from memories with equal arguments the kernel's program and the
  reference end with the same four results.
-/
module

public import proofs.«01_k».proof.Proof.ComparePost
public import proofs.«01_k».proof.Proof.MeanValue
public import proofs.«01_k».proof.Proof.KernelIdealRun

@[expose] public section

set_option maxRecDepth 16384

noncomputable section

namespace Cert.Proof.Compare

open Idealize.ShloMosaic Idealize.ShloMosaic.TcCoe Idealize.ShloMosaic.Tactic
open Idealize.SL.Sem
open Idealize.ShloMosaic.StableHlo (after afterL atTrip launchContents)

/-- The kernel program's memory. -/
abbrev KMem := (ℓ : Loc Cert.KernelIdeal.nD Cert.KernelIdeal.τ Cert.KernelIdeal.sig) → Buf (Elt Ideal) ℓ
/-- The reference program's memory. -/
abbrev RMem := (ℓ : Loc Cert.ReferenceIdeal.nD Cert.ReferenceIdeal.τ Cert.ReferenceIdeal.sig) → Buf (Elt Ideal) ℓ

variable (m : KMem) (m' : RMem) (c : Dev Cert.KernelIdeal.nD)

/-- An argument of the kernel's program at its loop's exit is as it was at the launch. -/
theorem kernel_arg (b : Ref Cert.KernelIdeal.sig .tc)
    (hb : b = Cert.KernelIdeal.main_arg0 ∨ b = Cert.KernelIdeal.main_arg1 ∨ b = Cert.KernelIdeal.main_arg2) :
    KernelIdeal.loopExit m c b = m ((c.tc : Thread Cert.KernelIdeal.nD Cert.KernelIdeal.τ).loc b) := by
  have h := KernelIdeal.args_unwritten (F := Ideal) b hb
  rw [KernelIdeal.loopExit, StableHlo.after_of_forall_not_mem _ _ (h _ (by simp)),
    KernelIdeal.trip_keeps b (fun ops ho => h ops (by simp only [List.mem_cons] at ho ⊢; tauto)), KernelIdeal.entryAt,
    StableHlo.after_of_forall_not_mem _ _ (h _ (by simp))]

/-- No operation of the reference's loop writes its points or its table. -/
theorem ref_unwritten (b : Ref Cert.ReferenceIdeal.sig .tc) (hb : b = Cert.ReferenceIdeal.main_v0 ∨ b = Cert.ReferenceIdeal.main_v1) :
    ∀ ops ∈ (ReferenceIdeal.condOps (F := Ideal)) :: ReferenceIdeal.bodyI, ∀ op ∈ ops,
      (Proc.devRef .tc b : DevRef Cert.ReferenceIdeal.τ Cert.ReferenceIdeal.sig) ∉ op.writes := by
  intro ops ho op hop h
  rcases hb with rfl | rfl <;> revert h <;>
  · fin_cases ho <;> fin_cases hop <;> exact fun h => StableHlo.devRef_ne_of_ne (by decide) (Finset.mem_singleton.mp h)

/-- The reference's points and table at its loop's exit are as they were at its entry. -/
theorem ref_kept (b : Ref Cert.ReferenceIdeal.sig .tc) (hb : b = Cert.ReferenceIdeal.main_v0 ∨ b = Cert.ReferenceIdeal.main_v1) :
    ReferenceIdeal.loopExit m' c b = after ReferenceIdeal.preOps (launchContents m' c) b := by
  have h := ref_unwritten b hb
  rw [ReferenceIdeal.loopExit, StableHlo.after_of_forall_not_mem _ _ (h _ (by simp)), ReferenceIdeal.trip_keeps b h,
    ReferenceIdeal.entryAt, StableHlo.entryContents, StableHlo.afterL_cons, StableHlo.afterL_nil]

/-- The two programs' arguments are the same. -/
def SameArgs : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)

variable {m m' c} (h : SameArgs m m' c)

include h

/-- The two loops end in agreement. -/
theorem agree_exit : Agree (KernelIdeal.loopExit m c) (ReferenceIdeal.loopExit m' c) :=
  agree_cond (agree_trip (KernelIdeal.entryAt m) (ReferenceIdeal.entryAt m') c (by
    rw [KernelIdeal.entryAt, ReferenceIdeal.entryAt, StableHlo.entryContents, StableHlo.afterL_cons, StableHlo.afterL_nil]
    exact agree_entry h.1.symm) 256)

/-- After the loops the two programs' points are the same. -/
theorem points_exit : KernelIdeal.loopExit m c Cert.KernelIdeal.main_arg0 = ReferenceIdeal.loopExit m' c Cert.ReferenceIdeal.main_v1 :=
  (kernel_arg m c _ (.inl rfl)).trans (h.1.symm.trans ((ref_kept m' c _ (.inr rfl)).trans (ref_points _)).symm)

/-- After the loops the reference's table is the kernel's points beside its features. -/
theorem table_exit : ReferenceIdeal.loopExit m' c Cert.ReferenceIdeal.main_v0
    = table (F := Ideal) (KernelIdeal.loopExit m c Cert.KernelIdeal.main_arg0) (KernelIdeal.loopExit m c Cert.KernelIdeal.main_arg1) := by
  refine (ref_kept m' c _ (.inl rfl)).trans ((ref_table _).trans ?_)
  exact congrArg₂ (table (F := Ideal)) (h.1.trans (kernel_arg m c _ (.inl rfl)).symm) (h.2.1.trans (kernel_arg m c _ (.inr (.inl rfl))).symm)

/-- The third results, the centers, are the same. -/
theorem result_centers : KernelIdeal.regionEntry m c Cert.KernelIdeal.main_v20
    = after ReferenceIdeal.postOps0 (ReferenceIdeal.loopExit m' c) Cert.ReferenceIdeal.main_v22 :=
  centers_agree (agree_exit h).chosen (points_exit h)

/-- The nearest neighbours are the same. -/
theorem result_indices : KernelIdeal.regionEntry m c Cert.KernelIdeal.main_indices
    = after ReferenceIdeal.postOps0 (ReferenceIdeal.loopExit m' c) Cert.ReferenceIdeal.main_indices :=
  indices_agree (agree_exit h).chosen (points_exit h)

/-- The reference's table is still there before its last operations. -/
theorem table_last : after ReferenceIdeal.postOps0 (ReferenceIdeal.loopExit m' c) Cert.ReferenceIdeal.main_v0
    = table (F := Ideal) (KernelIdeal.loopExit m c Cert.KernelIdeal.main_arg0) (KernelIdeal.loopExit m c Cert.KernelIdeal.main_arg1) :=
  (ref_table_kept _).trans (table_exit h)

/-- Result 1: the mean of each center's 64 neighbours' features. -/
theorem final_mean : KernelIdeal.finalAt m c Cert.KernelIdeal.main_v72 = ReferenceIdeal.finalAt m' c Cert.ReferenceIdeal.main_v64 := by
  have hb := ref_batchNo (ReferenceIdeal.loopExit m' c)
  rw [KernelIdeal.finalAt, (kernel_last _).2.2, KernelIdeal.regionExit, KernelIdeal.Wx_out, KernelIdeal.outArr_eq,
    KernelIdeal.regionEntry, kernel_features]
  refine (KernelIdeal.mean_eq _).trans ?_
  rw [ReferenceIdeal.finalAt, ref_mean _ _ _ (table_last h) hb.1 hb.2, ← result_indices h]

/-- Result 3: the centers. -/
theorem final_centers : KernelIdeal.finalAt m c Cert.KernelIdeal.main_v20 = ReferenceIdeal.finalAt m' c Cert.ReferenceIdeal.main_v22 := by
  rw [KernelIdeal.finalAt, (kernel_last _).1, KernelIdeal.regionExit, KernelIdeal.Wx_ne _ _ _ (by decide), result_centers h,
    ReferenceIdeal.finalAt, ref_centers]

/-- Result 4: each neighbour's offset from its center. -/
theorem final_offsets : KernelIdeal.finalAt m c Cert.KernelIdeal.main_v54 = ReferenceIdeal.finalAt m' c Cert.ReferenceIdeal.main_v60 := by
  have hb := ref_batchNo (ReferenceIdeal.loopExit m' c)
  rw [KernelIdeal.finalAt, (kernel_last _).2.1, KernelIdeal.regionExit, KernelIdeal.Wx_ne _ _ _ (by decide), KernelIdeal.regionEntry,
    kernel_offsets, ReferenceIdeal.finalAt, ref_offsets _ _ _ (table_last h) hb.1 hb.2, ← result_indices h, ← result_centers h]

omit h in
/-- Result 2: ones. -/
theorem final_ones : KernelIdeal.finalAt m c Cert.KernelIdeal.main_v73 = ReferenceIdeal.finalAt m' c Cert.ReferenceIdeal.main_v65 :=
  ones_agree _ _

end Cert.Proof.Compare

end
-- ==== Proof.lean ====
/-
  The proof of the certificate's claim: the frames of the kernel and of the reference, and that over the extended reals
  the two programs end with the same four results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.KernelRun
public import proofs.«01_k».proof.Proof.CompareFinal
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's own program runs, terminates, and leaves its arguments as they were, every counter at zero. -/
theorem kernel_frame : Cert.quiescent_Kernel (hKernel := Cert.Kernel.Gen.facts) := fun m g _ => Cert.Proof.Kernel.frame_run m g

/-- The same of the kernel over the extended reals. -/
theorem kernelIdeal_frame : Cert.quiescent_KernelIdeal (hKernelIdeal := Cert.KernelIdeal.Gen.facts) :=
  fun m g _ => Cert.Proof.KernelIdeal.frame_run m g

/-- The same of the reference over the extended reals. -/
theorem reference_frame : Cert.quiescent_ReferenceIdeal (hReferenceIdeal := Cert.ReferenceIdeal.Gen.facts) :=
  fun m g _ => Cert.Proof.ReferenceIdeal.frame_run m g

/-- Over the extended reals, from equal arguments the kernel and the reference end with equal results, all four. -/
theorem same_results : Cert.algebraic_KernelIdeal_ReferenceIdeal (hKernelIdeal := Cert.KernelIdeal.Gen.facts)
    (hReferenceIdeal := Cert.ReferenceIdeal.Gen.facts) := by
  intro m g m' g' _ hargs
  have h : ∀ c, Cert.Proof.Compare.SameArgs m m' c := hargs
  refine ⟨fun c => Cert.Proof.KernelIdeal.finalAt m c Cert.KernelIdeal.main_v72, fun c => Cert.Proof.KernelIdeal.finalAt m c Cert.KernelIdeal.main_v73,
    fun c => Cert.Proof.KernelIdeal.finalAt m c Cert.KernelIdeal.main_v20, fun c => Cert.Proof.KernelIdeal.finalAt m c Cert.KernelIdeal.main_v54, ?_, ?_⟩
  · refine (θ_run _ _ _).mono (fun r hr c => ⟨hr.1 c Cert.KernelIdeal.main_v72 rfl, hr.1 c Cert.KernelIdeal.main_v73 rfl,
      hr.1 c Cert.KernelIdeal.main_v20 rfl, hr.1 c Cert.KernelIdeal.main_v54 rfl, ?_, ?_, ?_⟩) (Cert.Proof.KernelIdeal.run m g)
    · exact (hr.1 c Cert.KernelIdeal.main_arg0 rfl).trans (Cert.Proof.KernelIdeal.final_keeps m _ (by decide) (Cert.Proof.KernelIdeal.args_unwritten _ (.inl rfl)) c)
    · exact (hr.1 c Cert.KernelIdeal.main_arg1 rfl).trans (Cert.Proof.KernelIdeal.final_keeps m _ (by decide) (Cert.Proof.KernelIdeal.args_unwritten _ (.inr (.inl rfl))) c)
    · exact (hr.1 c Cert.KernelIdeal.main_arg2 rfl).trans (Cert.Proof.KernelIdeal.final_keeps m _ (by decide) (Cert.Proof.KernelIdeal.args_unwritten _ (.inr (.inr rfl))) c)
  · refine (θ_run _ _ _).mono (fun r hr c => ⟨?_, ?_, ?_, ?_, ?_, ?_, ?_⟩) (Cert.Proof.ReferenceIdeal.run m' g')
    · exact (hr.1 c Cert.ReferenceIdeal.main_v64 rfl).trans (Cert.Proof.Compare.final_mean (h c)).symm
    · exact (hr.1 c Cert.ReferenceIdeal.main_v65 rfl).trans Cert.Proof.Compare.final_ones.symm
    · exact (hr.1 c Cert.ReferenceIdeal.main_v22 rfl).trans (Cert.Proof.Compare.final_centers (h c)).symm
    · exact (hr.1 c Cert.ReferenceIdeal.main_v60 rfl).trans (Cert.Proof.Compare.final_offsets (h c)).symm
    · exact (hr.1 c Cert.ReferenceIdeal.main_arg0 rfl).trans (Cert.Proof.ReferenceIdeal.final_keeps m' _ (.inl rfl) c)
    · exact (hr.1 c Cert.ReferenceIdeal.main_arg1 rfl).trans (Cert.Proof.ReferenceIdeal.final_keeps m' _ (.inr (.inl rfl)) c)
    · exact (hr.1 c Cert.ReferenceIdeal.main_arg2 rfl).trans (Cert.Proof.ReferenceIdeal.final_keeps m' _ (.inr (.inr rfl)) c)

/-- Everything the certificate claims. -/
theorem claim : Cert.Claim := ⟨Cert.Kernel.Gen.facts, Cert.KernelIdeal.Gen.facts, Cert.ReferenceIdeal.Gen.facts,
  kernel_frame, kernelIdeal_frame, reference_frame, trivial, same_results⟩

end Cert.Proof

end
